-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S1 : Shape := ⟨1, ![1]⟩
abbrev S4096x2048 : Shape := ⟨2, ![4096, 2048]⟩
abbrev S9x4096x256 : Shape := ⟨3, ![9, 4096, 256]⟩
abbrev S9x256x2048 : Shape := ⟨3, ![9, 256, 2048]⟩
abbrev S8x4096x256 : Shape := ⟨3, ![8, 4096, 256]⟩
abbrev S8x256x2048 : Shape := ⟨3, ![8, 256, 2048]⟩
abbrev S8x3 : Shape := ⟨2, ![8, 3]⟩
abbrev S7x3 : Shape := ⟨2, ![7, 3]⟩
abbrev S_ : Shape := ⟨0, ![]⟩
abbrev S1x1 : Shape := ⟨2, ![1, 1]⟩
abbrev S1x256x2048 : Shape := ⟨3, ![1, 256, 2048]⟩
abbrev S1x2048x256 : Shape := ⟨3, ![1, 2048, 256]⟩
abbrev S2048x256 : Shape := ⟨2, ![2048, 256]⟩
abbrev S1024x256 : Shape := ⟨2, ![1024, 256]⟩
abbrev S1024x2048 : Shape := ⟨2, ![1024, 2048]⟩
abbrev S512x2048 : Shape := ⟨2, ![512, 2048]⟩
abbrev S1x1024x256 : Shape := ⟨3, ![1, 1024, 256]⟩
abbrev S1024x512 : Shape := ⟨2, ![1024, 512]⟩

abbrev nBuf : Space → Nat
  | .hbm => 5
  | .vmem => 7
  | .smem => 2
  | _ => 0

abbrev bufTy : (tb : Table) → Fin (tcTables nBuf tb) → BufTy
  | .hbm, ⟨0, _⟩ => ⟨S4096x256, .fp8e5m2⟩
  | .hbm, ⟨1, _⟩ => ⟨S256x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x256, .fp8e5m2⟩
  | .local _ .vmem, ⟨1, _⟩ => ⟨S256x2048, .fp8e5m2⟩
  | .local _ .vmem, ⟨2, _⟩ => ⟨S4096x2048, .f32⟩
  | .local _ .vmem, ⟨3, _⟩ => ⟨S9x4096x256, .fp8e5m2⟩
  | .local _ .vmem, ⟨4, _⟩ => ⟨S9x256x2048, .fp8e5m2⟩
  | .local _ .vmem, ⟨5, _⟩ => ⟨S8x4096x256, .fp8e5m2⟩
  | .local _ .vmem, ⟨6, _⟩ => ⟨S8x256x2048, .fp8e5m2⟩
  | .local _ .smem, ⟨0, _⟩ => ⟨S1, .f32⟩
  | .local _ .smem, ⟨1, _⟩ => ⟨S1, .f32⟩
  | _, _ => ⟨S4096x256, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 95 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | _ => false

abbrev sig : RefSig :=
  (ofTc nBuf bufTy 1 95 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_15 : BitVec 32 := 1#32
  let v13 : BitVec 32 := Scalar.muli v7 c1_i32_15
  let v14 : BitVec 32 := Scalar.addi c0_i32_16 v13
  v14.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_24 : BitVec 32 := 1#32
  let v21 : BitVec 32 := Scalar.muli v5 c1_i32_24
  let v22 : BitVec 32 := Scalar.addi c0_i32_25 v21
  v22.toNat
def k0_dev5 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_33 : BitVec 32 := 1#32
  let v29 : BitVec 32 := Scalar.muli v7 c1_i32_33
  let v30 : BitVec 32 := Scalar.addi c0_i32_34 v29
  v30.toNat
def k0_dev6 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_44 : BitVec 32 := 1#32
  let v38 : BitVec 32 := Scalar.muli v5 c1_i32_44
  let v39 : BitVec 32 := Scalar.addi c0_i32_45 v38
  v39.toNat
def k0_dev7 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_55 : BitVec 32 := 1#32
  let v47 : BitVec 32 := Scalar.muli v7 c1_i32_55
  let v48 : BitVec 32 := Scalar.addi c0_i32_56 v47
  v48.toNat
def k0_dev8 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_65 : BitVec 32 := 1#32
  let v56 : BitVec 32 := Scalar.muli v5 c1_i32_65
  let v57 : BitVec 32 := Scalar.addi c0_i32_66 v56
  v57.toNat
def k0_dev9 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_117 : BitVec 32 := 1#32
  let v99 : BitVec 32 := Scalar.muli v7 c1_i32_117
  let v100 : BitVec 32 := Scalar.addi c0_i32_118 v99
  v100.toNat
def k0_dev10 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_146 : BitVec 32 := 1#32
  let v119 : BitVec 32 := Scalar.muli v5 c1_i32_146
  let v120 : BitVec 32 := Scalar.addi c0_i32_147 v119
  v120.toNat
def k0_dev11 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_179 : BitVec 32 := 1#32
  let v141 : BitVec 32 := Scalar.muli v7 c1_i32_179
  let v142 : BitVec 32 := Scalar.addi c0_i32_180 v141
  v142.toNat
def k0_dev12 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_212 : BitVec 32 := 1#32
  let v163 : BitVec 32 := Scalar.muli v5 c1_i32_212
  let v164 : BitVec 32 := Scalar.addi c0_i32_213 v163
  v164.toNat
def k0_dev13 (d0 : Dev nD) : Nat :=
  let c0_i32_246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_245 : BitVec 32 := 1#32
  let v185 : BitVec 32 := Scalar.muli v7 c1_i32_245
  let v186 : BitVec 32 := Scalar.addi c0_i32_246 v185
  v186.toNat
def k0_dev14 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_278 : BitVec 32 := 1#32
  let v207 : BitVec 32 := Scalar.muli v5 c1_i32_278
  let v208 : BitVec 32 := Scalar.addi c0_i32_279 v207
  v208.toNat
def k0_dev15 (d0 : Dev nD) : Nat :=
  let c0_i32_362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_361 : BitVec 32 := 1#32
  let v276 : BitVec 32 := Scalar.muli v7 c1_i32_361
  let v277 : BitVec 32 := Scalar.addi c0_i32_362 v276
  v277.toNat
def k0_dev16 (d0 : Dev nD) : Nat :=
  let c0_i32_397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_396 : BitVec 32 := 1#32
  let v300 : BitVec 32 := Scalar.muli v5 c1_i32_396
  let v301 : BitVec 32 := Scalar.addi c0_i32_397 v300
  v301.toNat
def k0_dev17 (d0 : Dev nD) : Nat :=
  let c0_i32_432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_431 : BitVec 32 := 1#32
  let v324 : BitVec 32 := Scalar.muli v7 c1_i32_431
  let v325 : BitVec 32 := Scalar.addi c0_i32_432 v324
  v325.toNat
def k0_dev18 (d0 : Dev nD) : Nat :=
  let c0_i32_467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_466 : BitVec 32 := 1#32
  let v348 : BitVec 32 := Scalar.muli v5 c1_i32_466
  let v349 : BitVec 32 := Scalar.addi c0_i32_467 v348
  v349.toNat
def k0_dev19 (d0 : Dev nD) : Nat :=
  let c0_i32_502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_501 : BitVec 32 := 1#32
  let v372 : BitVec 32 := Scalar.muli v7 c1_i32_501
  let v373 : BitVec 32 := Scalar.addi c0_i32_502 v372
  v373.toNat
def k0_dev20 (d0 : Dev nD) : Nat :=
  let c0_i32_537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_536 : BitVec 32 := 1#32
  let v396 : BitVec 32 := Scalar.muli v5 c1_i32_536
  let v397 : BitVec 32 := Scalar.addi c0_i32_537 v396
  v397.toNat
def k0_dev21 (d0 : Dev nD) : Nat :=
  let c0_i32_620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_619 : BitVec 32 := 1#32
  let v465 : BitVec 32 := Scalar.muli v7 c1_i32_619
  let v466 : BitVec 32 := Scalar.addi c0_i32_620 v465
  v466.toNat
def k0_dev22 (d0 : Dev nD) : Nat :=
  let c0_i32_655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_654 : BitVec 32 := 1#32
  let v489 : BitVec 32 := Scalar.muli v5 c1_i32_654
  let v490 : BitVec 32 := Scalar.addi c0_i32_655 v489
  v490.toNat
def k0_dev23 (d0 : Dev nD) : Nat :=
  let c0_i32_690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_689 : BitVec 32 := 1#32
  let v513 : BitVec 32 := Scalar.muli v7 c1_i32_689
  let v514 : BitVec 32 := Scalar.addi c0_i32_690 v513
  v514.toNat
def k0_dev24 (d0 : Dev nD) : Nat :=
  let c0_i32_725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_724 : BitVec 32 := 1#32
  let v537 : BitVec 32 := Scalar.muli v5 c1_i32_724
  let v538 : BitVec 32 := Scalar.addi c0_i32_725 v537
  v538.toNat
def k0_dev25 (d0 : Dev nD) : Nat :=
  let c0_i32_760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_759 : BitVec 32 := 1#32
  let v561 : BitVec 32 := Scalar.muli v7 c1_i32_759
  let v562 : BitVec 32 := Scalar.addi c0_i32_760 v561
  v562.toNat
def k0_dev26 (d0 : Dev nD) : Nat :=
  let c0_i32_795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_794 : BitVec 32 := 1#32
  let v585 : BitVec 32 := Scalar.muli v5 c1_i32_794
  let v586 : BitVec 32 := Scalar.addi c0_i32_795 v585
  v586.toNat
def k0_dev27 (d0 : Dev nD) : Nat :=
  let c0_i32_878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_877 : BitVec 32 := 1#32
  let v654 : BitVec 32 := Scalar.muli v7 c1_i32_877
  let v655 : BitVec 32 := Scalar.addi c0_i32_878 v654
  v655.toNat
def k0_dev28 (d0 : Dev nD) : Nat :=
  let c0_i32_913 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_912 : BitVec 32 := 1#32
  let v678 : BitVec 32 := Scalar.muli v5 c1_i32_912
  let v679 : BitVec 32 := Scalar.addi c0_i32_913 v678
  v679.toNat
def k0_dev29 (d0 : Dev nD) : Nat :=
  let c0_i32_948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_947 : BitVec 32 := 1#32
  let v702 : BitVec 32 := Scalar.muli v7 c1_i32_947
  let v703 : BitVec 32 := Scalar.addi c0_i32_948 v702
  v703.toNat
def k0_dev30 (d0 : Dev nD) : Nat :=
  let c0_i32_983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_982 : BitVec 32 := 1#32
  let v726 : BitVec 32 := Scalar.muli v5 c1_i32_982
  let v727 : BitVec 32 := Scalar.addi c0_i32_983 v726
  v727.toNat
def k0_dev31 (d0 : Dev nD) : Nat :=
  let c0_i32_1018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1017 : BitVec 32 := 1#32
  let v750 : BitVec 32 := Scalar.muli v7 c1_i32_1017
  let v751 : BitVec 32 := Scalar.addi c0_i32_1018 v750
  v751.toNat
def k0_dev32 (d0 : Dev nD) : Nat :=
  let c0_i32_1053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1052 : BitVec 32 := 1#32
  let v774 : BitVec 32 := Scalar.muli v5 c1_i32_1052
  let v775 : BitVec 32 := Scalar.addi c0_i32_1053 v774
  v775.toNat
def k0_dev33 (d0 : Dev nD) : Nat :=
  let c0_i32_1136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1135 : BitVec 32 := 1#32
  let v843 : BitVec 32 := Scalar.muli v7 c1_i32_1135
  let v844 : BitVec 32 := Scalar.addi c0_i32_1136 v843
  v844.toNat
def k0_dev34 (d0 : Dev nD) : Nat :=
  let c0_i32_1171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1170 : BitVec 32 := 1#32
  let v867 : BitVec 32 := Scalar.muli v5 c1_i32_1170
  let v868 : BitVec 32 := Scalar.addi c0_i32_1171 v867
  v868.toNat
def k0_dev35 (d0 : Dev nD) : Nat :=
  let c0_i32_1206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1205 : BitVec 32 := 1#32
  let v891 : BitVec 32 := Scalar.muli v7 c1_i32_1205
  let v892 : BitVec 32 := Scalar.addi c0_i32_1206 v891
  v892.toNat
def k0_dev36 (d0 : Dev nD) : Nat :=
  let c0_i32_1241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1240 : BitVec 32 := 1#32
  let v915 : BitVec 32 := Scalar.muli v5 c1_i32_1240
  let v916 : BitVec 32 := Scalar.addi c0_i32_1241 v915
  v916.toNat
def k0_dev37 (d0 : Dev nD) : Nat :=
  let c0_i32_1276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1275 : BitVec 32 := 1#32
  let v939 : BitVec 32 := Scalar.muli v7 c1_i32_1275
  let v940 : BitVec 32 := Scalar.addi c0_i32_1276 v939
  v940.toNat
def k0_dev38 (d0 : Dev nD) : Nat :=
  let c0_i32_1311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1310 : BitVec 32 := 1#32
  let v963 : BitVec 32 := Scalar.muli v5 c1_i32_1310
  let v964 : BitVec 32 := Scalar.addi c0_i32_1311 v963
  v964.toNat
def k0_dev39 (d0 : Dev nD) : Nat :=
  let c0_i32_1394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1393 : BitVec 32 := 1#32
  let v1032 : BitVec 32 := Scalar.muli v7 c1_i32_1393
  let v1033 : BitVec 32 := Scalar.addi c0_i32_1394 v1032
  v1033.toNat
def k0_dev40 (d0 : Dev nD) : Nat :=
  let c0_i32_1429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1428 : BitVec 32 := 1#32
  let v1056 : BitVec 32 := Scalar.muli v5 c1_i32_1428
  let v1057 : BitVec 32 := Scalar.addi c0_i32_1429 v1056
  v1057.toNat
def k0_dev41 (d0 : Dev nD) : Nat :=
  let c0_i32_1464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1463 : BitVec 32 := 1#32
  let v1080 : BitVec 32 := Scalar.muli v7 c1_i32_1463
  let v1081 : BitVec 32 := Scalar.addi c0_i32_1464 v1080
  v1081.toNat
def k0_dev42 (d0 : Dev nD) : Nat :=
  let c0_i32_1499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1498 : BitVec 32 := 1#32
  let v1104 : BitVec 32 := Scalar.muli v5 c1_i32_1498
  let v1105 : BitVec 32 := Scalar.addi c0_i32_1499 v1104
  v1105.toNat
def k0_dev43 (d0 : Dev nD) : Nat :=
  let c0_i32_1534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1533 : BitVec 32 := 1#32
  let v1128 : BitVec 32 := Scalar.muli v7 c1_i32_1533
  let v1129 : BitVec 32 := Scalar.addi c0_i32_1534 v1128
  v1129.toNat
def k0_dev44 (d0 : Dev nD) : Nat :=
  let c0_i32_1569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1568 : BitVec 32 := 1#32
  let v1152 : BitVec 32 := Scalar.muli v5 c1_i32_1568
  let v1153 : BitVec 32 := Scalar.addi c0_i32_1569 v1152
  v1153.toNat
def k0_dev45 (d0 : Dev nD) : Nat :=
  let c0_i32_1652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1651 : BitVec 32 := 1#32
  let v1221 : BitVec 32 := Scalar.muli v7 c1_i32_1651
  let v1222 : BitVec 32 := Scalar.addi c0_i32_1652 v1221
  v1222.toNat
def k0_dev46 (d0 : Dev nD) : Nat :=
  let c0_i32_1710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1709 : BitVec 32 := 1#32
  let v1259 : BitVec 32 := Scalar.muli v7 c1_i32_1709
  let v1260 : BitVec 32 := Scalar.addi c0_i32_1710 v1259
  v1260.toNat
def k0_dev47 (d0 : Dev nD) : Nat :=
  let c0_i32_1768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1767 : BitVec 32 := 1#32
  let v1297 : BitVec 32 := Scalar.muli v7 c1_i32_1767
  let v1298 : BitVec 32 := Scalar.addi c0_i32_1768 v1297
  v1298.toNat
abbrev stage0_0 : Fin 1 → Memref sig .tc .vmem S4096x256 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Prog.lean ====
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Tactic

/-! # The kernel's body, hop by hop

The printed body is one straight line of some three hundred memory operations.
This module writes the same line as a composition of a few pieces that take the
hop as a parameter — send a block one step round the ring, wait for a block to
have come and for the previous one to have gone, multiply the blocks that came —
and shows that the printed body is that composition. Everything proved later
about the body is proved once per piece, at a hop that stays a variable. -/

@[expose] public section

noncomputable section

namespace Cert.KernelIdeal.RingGemm

open Idealize.ShloMosaic Idealize.ShloMosaic.TcCoe Idealize.ShloMosaic.Tactic Idealize.SL.Sem
open Cert.KernelIdeal Cert.KernelIdeal.Gen

variable {F : FTy → Type} [FloatOps F]

/-! ## The buffers -/

abbrev xM : Memref sig .tc .vmem S4096x256 .fp8e5m2 := Memref.whole cc0_stg0_0
abbrev wM : Memref sig .tc .vmem S256x2048 .fp8e5m2 := Memref.whole cc0_stg1_0
abbrev sxM : Memref sig .tc .smem S1 .f32 := Memref.whole cc0_stg2_0
abbrev swM : Memref sig .tc .smem S1 .f32 := Memref.whole cc0_stg3_0
abbrev oM : Memref sig .tc .vmem S4096x2048 .f32 := Memref.whole cc0_stg4_0
abbrev cxM : Memref sig .tc .vmem S9x4096x256 .fp8e5m2 := Memref.whole cc0_scratch0
abbrev cwM : Memref sig .tc .vmem S9x256x2048 .fp8e5m2 := Memref.whole cc0_scratch1
abbrev kxM : Memref sig .tc .vmem S8x4096x256 .fp8e5m2 := Memref.whole cc0_scratch2
abbrev kwM : Memref sig .tc .vmem S8x256x2048 .fp8e5m2 := Memref.whole cc0_scratch3

/-! ## Rectangles, in bounds at every hop -/

/-- A half of x lies in the operand. -/
theorem inb_x (f : Fin 2) : ∀ a, (![2048 * f.val, 0] : Fin 2 → Nat) a + S2048x256.size a ≤ S4096x256.size a := by
  revert f; decide
/-- A right-going half of x lies in its buffer. -/
theorem inb_cx (h : Fin 9) (f : Fin 2) : ∀ a, (![h.val, 2048 * f.val, 0] : Fin 3 → Nat) a + S1x2048x256.size a ≤ S9x4096x256.size a := by
  revert h f; decide
/-- A right-going slot of w lies in its buffer. -/
theorem inb_cw (h : Fin 9) : ∀ a, (![h.val, 0, 0] : Fin 3 → Nat) a + S1x256x2048.size a ≤ S9x256x2048.size a := by
  revert h; decide
/-- A left-going half of x lies in its buffer. -/
theorem inb_kx (h : Fin 8) (f : Fin 2) : ∀ a, (![h.val, 2048 * f.val, 0] : Fin 3 → Nat) a + S1x2048x256.size a ≤ S8x4096x256.size a := by
  revert h f; decide
/-- A left-going slot of w lies in its buffer. -/
theorem inb_kw (h : Fin 8) : ∀ a, (![h.val, 0, 0] : Fin 3 → Nat) a + S1x256x2048.size a ≤ S8x256x2048.size a := by
  revert h; decide
/-- A semaphore of a right-going copy lies in its array. -/
theorem inb_s8 (j : Fin 8) (f : Fin 3) : ∀ a, (![j.val, f.val] : Fin 2 → Nat) a + S1x1.size a ≤ S8x3.size a := by
  revert j f; decide
/-- A semaphore of a left-going copy lies in its array. -/
theorem inb_s7 (j : Fin 7) (f : Fin 3) : ∀ a, (![j.val, f.val] : Fin 2 → Nat) a + S1x1.size a ≤ S7x3.size a := by
  revert j f; decide
/-- A row block lies in the operand. -/
theorem inb_xr (r : Fin 4) : ∀ a, (![1024 * r.val, 0] : Fin 2 → Nat) a + S1024x256.size a ≤ S4096x256.size a := by
  revert r; decide
/-- A row block lies in the result. -/
theorem inb_or (r : Fin 4) : ∀ a, (![1024 * r.val, 0] : Fin 2 → Nat) a + S1024x2048.size a ≤ S4096x2048.size a := by
  revert r; decide
/-- A row block of a right-going slot lies in its buffer. -/
theorem inb_cxr (h : Fin 9) (r : Fin 4) : ∀ a, (![h.val, 1024 * r.val, 0] : Fin 3 → Nat) a + S1x1024x256.size a ≤ S9x4096x256.size a := by
  revert h r; decide
/-- A row block of a left-going slot lies in its buffer. -/
theorem inb_kxr (h : Fin 8) (r : Fin 4) : ∀ a, (![h.val, 1024 * r.val, 0] : Fin 3 → Nat) a + S1x1024x256.size a ≤ S8x4096x256.size a := by
  revert h r; decide

/-- Half `f` (rows `2048 f` to `2048 f + 2048`) of the device's own block of x. -/
abbrev xRect (f : Fin 2) : Rect S4096x256 := Rect.unit (s := S4096x256) ![2048 * f.val, 0] S2048x256.size (inb_x f)
/-- Half `f` of slot `h` of the buffer of x blocks that came from the left; -/
abbrev cxRect (h : Fin 9) (f : Fin 2) : Rect S9x4096x256 := Rect.unit (s := S9x4096x256) ![h.val, 2048 * f.val, 0] S1x2048x256.size (inb_cx h f)
/-- slot `h` of the w blocks that came from the left; -/
abbrev cwRect (h : Fin 9) : Rect S9x256x2048 := Rect.unit (s := S9x256x2048) ![h.val, 0, 0] S1x256x2048.size (inb_cw h)
/-- half `f` of slot `h` of the x blocks that came from the right; -/
abbrev kxRect (h : Fin 8) (f : Fin 2) : Rect S8x4096x256 := Rect.unit (s := S8x4096x256) ![h.val, 2048 * f.val, 0] S1x2048x256.size (inb_kx h f)
/-- slot `h` of the w blocks that came from the right. -/
abbrev kwRect (h : Fin 8) : Rect S8x256x2048 := Rect.unit (s := S8x256x2048) ![h.val, 0, 0] S1x256x2048.size (inb_kw h)
/-- Rows `1024 r` to `1024 r + 1024` of the device's own block of x, -/
abbrev xrRect (r : Fin 4) : Rect S4096x256 := Rect.unit (s := S4096x256) ![1024 * r.val, 0] S1024x256.size (inb_xr r)
/-- of the result, -/
abbrev oRect (r : Fin 4) : Rect S4096x2048 := Rect.unit (s := S4096x2048) ![1024 * r.val, 0] S1024x2048.size (inb_or r)
/-- of slot `h` from the left, -/
abbrev cxrRect (h : Fin 9) (r : Fin 4) : Rect S9x4096x256 := Rect.unit (s := S9x4096x256) ![h.val, 1024 * r.val, 0] S1x1024x256.size (inb_cxr h r)
/-- of slot `h` from the right. -/
abbrev kxrRect (h : Fin 8) (r : Fin 4) : Rect S8x4096x256 := Rect.unit (s := S8x4096x256) ![h.val, 1024 * r.val, 0] S1x1024x256.size (inb_kxr h r)

/-- A half of x is made of whole words. -/
theorem words_x (f : Fin 2) : (xRect f).WholeWords (EltTy.packing .fp8e5m2) := by
  revert f; decide
/-- A right-going half of x is made of whole words. -/
theorem words_cx (h : Fin 9) (f : Fin 2) : (cxRect h f).WholeWords (EltTy.packing .fp8e5m2) := by
  revert h f; decide
/-- A right-going slot of w is made of whole words. -/
theorem words_cw (h : Fin 9) : (cwRect h).WholeWords (EltTy.packing .fp8e5m2) := by
  revert h; decide
/-- A left-going half of x is made of whole words. -/
theorem words_kx (h : Fin 8) (f : Fin 2) : (kxRect h f).WholeWords (EltTy.packing .fp8e5m2) := by
  revert h f; decide
/-- A left-going slot of w is made of whole words. -/
theorem words_kw (h : Fin 8) : (kwRect h).WholeWords (EltTy.packing .fp8e5m2) := by
  revert h; decide

/-! ## The views a transfer reads and writes -/

/-- Half `f` of the device's own x block. -/
abbrev xH (f : Fin 2) : Memref sig .tc .vmem S2048x256 .fp8e5m2 := xM.slice (xRect f) (fun _ => rfl)
abbrev cxS (h : Fin 9) (f : Fin 2) : Memref sig .tc .vmem S2048x256 .fp8e5m2 :=
  (cxM.slice (cxRect h f) (fun _ => rfl)).squeeze S2048x256 squeezes_S1x2048x256_S2048x256
abbrev cwS (h : Fin 9) : Memref sig .tc .vmem S256x2048 .fp8e5m2 :=
  (cwM.slice (cwRect h) (fun _ => rfl)).squeeze S256x2048 squeezes_S1x256x2048_S256x2048
abbrev kxS (h : Fin 8) (f : Fin 2) : Memref sig .tc .vmem S2048x256 .fp8e5m2 :=
  (kxM.slice (kxRect h f) (fun _ => rfl)).squeeze S2048x256 squeezes_S1x2048x256_S2048x256
abbrev kwS (h : Fin 8) : Memref sig .tc .vmem S256x2048 .fp8e5m2 :=
  (kwM.slice (kwRect h) (fun _ => rfl)).squeeze S256x2048 squeezes_S1x256x2048_S256x2048

/-- A copy of a half of x moves just its elements. -/
theorem xH_exact (f : Fin 2) : (xH f).view.WordExact := (Memref.isWhole_whole _).wordExact_slice rfl _ (words_x f)
/-- A copy of a right-going half of x moves just its elements. -/
theorem cxS_exact (h : Fin 9) (f : Fin 2) : (cxS h f).view.WordExact := ((Memref.isWhole_whole _).wordExact_slice rfl _ (words_cx h f)).reshape _ _
/-- A copy of a right-going slot of w moves just its elements. -/
theorem cwS_exact (h : Fin 9) : (cwS h).view.WordExact := ((Memref.isWhole_whole _).wordExact_slice rfl _ (words_cw h)).reshape _ _
/-- A copy of a left-going half of x moves just its elements. -/
theorem kxS_exact (h : Fin 8) (f : Fin 2) : (kxS h f).view.WordExact := ((Memref.isWhole_whole _).wordExact_slice rfl _ (words_kx h f)).reshape _ _
/-- A copy of a left-going slot of w moves just its elements. -/
theorem kwS_exact (h : Fin 8) : (kwS h).view.WordExact := ((Memref.isWhole_whole _).wordExact_slice rfl _ (words_kw h)).reshape _ _

/-! ## The semaphores -/

abbrev cSS (j : Fin 8) (f : Fin 3) : DmaSem sig := ((cc0_scratch4.slice (Rect.unit (s := S8x3) ![j.val, f.val] S1x1.size (inb_s8 j f))).squeeze S_ squeezes_S1x1_S_).sem
abbrev cRS (j : Fin 8) (f : Fin 3) : DmaSem sig := ((cc0_scratch5.slice (Rect.unit (s := S8x3) ![j.val, f.val] S1x1.size (inb_s8 j f))).squeeze S_ squeezes_S1x1_S_).sem
abbrev kSS (j : Fin 7) (f : Fin 3) : DmaSem sig := ((cc0_scratch6.slice (Rect.unit (s := S7x3) ![j.val, f.val] S1x1.size (inb_s7 j f))).squeeze S_ squeezes_S1x1_S_).sem
abbrev kRS (j : Fin 7) (f : Fin 3) : DmaSem sig := ((cc0_scratch7.slice (Rect.unit (s := S7x3) ![j.val, f.val] S1x1.size (inb_s7 j f))).squeeze S_ squeezes_S1x1_S_).sem

/-! ## The transfers -/

/-- The transfers one device starts: to the right (`c`) over eight hops, to the left (`k`) over
    seven, each hop a w block and the two halves of an x block. Hop `j` lands in slot `j + 1`. -/
inductive T
  | cx (j : Fin 8) (f : Fin 2)
  | cw (j : Fin 8)
  | kx (j : Fin 7) (f : Fin 2)
  | kw (j : Fin 7)
  deriving DecidableEq

/-- The transfers as a sum of pairs, to count over them. -/
def T.equiv : ((Fin 8 × Fin 2 ⊕ Fin 8) ⊕ (Fin 7 × Fin 2 ⊕ Fin 7)) ≃ T where
  toFun
    | .inl (.inl (j, f)) => .cx j f
    | .inl (.inr j) => .cw j
    | .inr (.inl (j, f)) => .kx j f
    | .inr (.inr j) => .kw j
  invFun
    | .cx j f => .inl (.inl (j, f))
    | .cw j => .inl (.inr j)
    | .kx j f => .inr (.inl (j, f))
    | .kw j => .inr (.inr j)
  left_inv := by rintro ((⟨_, _⟩ | _) | (⟨_, _⟩ | _)) <;> rfl
  right_inv := by rintro (_ | _ | _ | _) <;> rfl

instance : Fintype T := Fintype.ofEquiv _ T.equiv

/-- What a transfer is: the view it reads here, the view it writes on the neighbour, the semaphore
    counting its departure here and the one counting its arrival there. -/
structure Leg where
  s : Shape
  src : Memref sig .tc .vmem s .fp8e5m2
  dst : Memref sig .tc .vmem s .fp8e5m2
  ss : DmaSem sig
  rs : DmaSem sig
  hsrc : src.view.WordExact
  hdst : dst.view.WordExact
  hsc : dst.view.ref.isScScratch = false

/-- Hop 0 reads the device's own block, hop `j + 1` the slot hop `j` filled. -/
def leg : T → Leg
  | .cx ⟨0, _⟩ f => ⟨S2048x256, xH f, cxS 1 f, cSS 0 f.castSucc, cRS 0 f.castSucc, xH_exact f, cxS_exact _ f, rfl⟩
  | .cx ⟨j + 1, h⟩ f => ⟨S2048x256, cxS ⟨j + 1, by omega⟩ f, cxS ⟨j + 2, by omega⟩ f, cSS ⟨j + 1, h⟩ f.castSucc, cRS ⟨j + 1, h⟩ f.castSucc, cxS_exact _ f, cxS_exact _ f, rfl⟩
  | .cw ⟨0, _⟩ => ⟨S256x2048, wM, cwS 1, cSS 0 2, cRS 0 2, (Memref.isWhole_whole _).wordExact, cwS_exact _, rfl⟩
  | .cw ⟨j + 1, h⟩ => ⟨S256x2048, cwS ⟨j + 1, by omega⟩, cwS ⟨j + 2, by omega⟩, cSS ⟨j + 1, h⟩ 2, cRS ⟨j + 1, h⟩ 2, cwS_exact _, cwS_exact _, rfl⟩
  | .kx ⟨0, _⟩ f => ⟨S2048x256, xH f, kxS 1 f, kSS 0 f.castSucc, kRS 0 f.castSucc, xH_exact f, kxS_exact _ f, rfl⟩
  | .kx ⟨j + 1, h⟩ f => ⟨S2048x256, kxS ⟨j + 1, by omega⟩ f, kxS ⟨j + 2, by omega⟩ f, kSS ⟨j + 1, h⟩ f.castSucc, kRS ⟨j + 1, h⟩ f.castSucc, kxS_exact _ f, kxS_exact _ f, rfl⟩
  | .kw ⟨0, _⟩ => ⟨S256x2048, wM, kwS 1, kSS 0 2, kRS 0 2, (Memref.isWhole_whole _).wordExact, kwS_exact _, rfl⟩
  | .kw ⟨j + 1, h⟩ => ⟨S256x2048, kwS ⟨j + 1, by omega⟩, kwS ⟨j + 2, by omega⟩, kSS ⟨j + 1, h⟩ 2, kRS ⟨j + 1, h⟩ 2, kwS_exact _, kwS_exact _, rfl⟩

/-- The right neighbour, as the body computes it, and the left one. -/
abbrev rt (c : Dev nD) : Dev nD := ⟨k0_dev3 c, k0_dev3_lt c⟩
abbrev lf (c : Dev nD) : Dev nD := ⟨k0_dev4 c, k0_dev4_lt c⟩

/-- The neighbour a transfer goes to. -/
def peer (c : Dev nD) : T → Dev nD
  | .cx _ _ => rt c
  | .cw _ => rt c
  | .kx _ _ => lf c
  | .kw _ => lf c

/-! ## The pieces of the body -/

abbrev Bd (F : FTy → Type) (α : Type) := Prog (TpuEff nD τ sig (Elt F) Λ₀ .tc) α

/-- Start transfer `t`. -/
def send (d : Dev nD) (t : T) : Bd F PUnit :=
  Prog.lift (.enqueueDma (leg t).src (.remote (Dev.tc (peer d t)) (leg t).dst (.dma (leg t).ss) (leg t).hsc) (.dma (leg t).rs) (leg t).hsrc (leg t).hdst ⟨⟨rfl, Or.inl rfl⟩, trivial⟩)

/-- Wait for the same transfer from the neighbour to have come, then for ours to have gone. -/
def await (t : T) : Bd F PUnit := do
  Prog.lift (.waitDma2 (leg t).rs (leg t).src (leg t).dst (leg t).hsrc (leg t).hdst)
  Prog.lift (.waitDma2 (leg t).ss (leg t).dst (leg t).src (leg t).hdst (leg t).hsrc)

/-- Row block `r` of the result from the device's own blocks. -/
def firstBlk (r : Fin 4) : Bd F PUnit := do
  let a : Vec F S1024x256 .fp8e5m2 ← Prog.lift (.load xM (xrRect r).toLoadRect (View.loadsAt_vmem h_S1024x256))
  let b : Vec F S256x2048 .fp8e5m2 ← Prog.lift (.load wM (Rect.unit (s := S256x2048) ![0, 0] S256x2048.size inb_S256x2048_S256x2048_0_0).toLoadRect (View.loadsAt_vmem h_S256x2048))
  let _o : Vec F S1024x2048 .f32 ← Prog.lift (.load oM (oRect r).toLoadRect (View.loadsAt_vmem h_S1024x2048))
  Prog.lift (.store oM (oRect r) (k0_pay2 a b) Finset.univ (View.stores_vmem_bits_univ h_S1024x2048 rfl) (.inl rfl))

/-- Row block `r` with slot `h` of both directions added in, `a` and `b` being the two w blocks. -/
def midBlk (h : Fin 8) (a b : Vec F S1x256x2048 .fp8e5m2) (r : Fin 4) : Bd F PUnit := do
  let p : Vec F S1x1024x256 .fp8e5m2 ← Prog.lift (.load cxM (cxrRect h.castSucc r).toLoadRect (View.loadsAt_vmem h_S1x1024x256))
  let q : Vec F S1x1024x256 .fp8e5m2 ← Prog.lift (.load kxM (kxrRect h r).toLoadRect (View.loadsAt_vmem h_S1x1024x256))
  let o : Vec F S1024x2048 .f32 ← Prog.lift (.load oM (oRect r).toLoadRect (View.loadsAt_vmem h_S1024x2048))
  let _o : Vec F S1024x2048 .f32 ← Prog.lift (.load oM (oRect r).toLoadRect (View.loadsAt_vmem h_S1024x2048))
  Prog.lift (.store oM (oRect r) (k0_pay7 a b p q o) Finset.univ (View.stores_vmem_bits_univ h_S1024x2048 rfl) (.inl rfl))

/-- Slot `h` of both directions added into all four row blocks. -/
def mid (h : Fin 8) : Bd F PUnit := do
  let a : Vec F S1x256x2048 .fp8e5m2 ← Prog.lift (.load cwM (cwRect h.castSucc).toLoadRect (View.loadsAt_vmem h_S1x256x2048))
  let b : Vec F S1x256x2048 .fp8e5m2 ← Prog.lift (.load kwM (kwRect h).toLoadRect (View.loadsAt_vmem h_S1x256x2048))
  midBlk h a b 0
  midBlk h a b 1
  midBlk h a b 2
  midBlk h a b 3

/-- Row block `r` with the last slot added in, scaled by `s` and passed through the activation. -/
def lastBlk (s : F .f32) (r : Fin 4) : Bd F PUnit := do
  let o : Vec F S1024x2048 .f32 ← Prog.lift (.load oM (oRect r).toLoadRect (View.loadsAt_vmem h_S1024x2048))
  let p : Vec F S1x1024x256 .fp8e5m2 ← Prog.lift (.load cxM (cxrRect 8 r).toLoadRect (View.loadsAt_vmem h_S1x1024x256))
  let w : Vec F S1x256x2048 .fp8e5m2 ← Prog.lift (.load cwM (cwRect 8).toLoadRect (View.loadsAt_vmem h_S1x256x2048))
  let _o : Vec F S1024x2048 .f32 ← Prog.lift (.load oM (oRect r).toLoadRect (View.loadsAt_vmem h_S1024x2048))
  Prog.lift (.store oM (oRect r) (k0_pay50 s o p w) Finset.univ (View.stores_vmem_bits_univ h_S1024x2048 rfl) (.inl rfl))

/-- Take transfer `t` in and start `t'`, which passes on what came. -/
def pass (d : Dev nD) (t t' : T) : Bd F PUnit := do
  await t
  send d t'

/-- Take hop `j` in, pass it on in both directions, and add it into the result. -/
def hop (d : Dev nD) (j : Fin 6) : Bd F PUnit := do
  pass d (.cw ⟨j.val, by omega⟩) (.cw ⟨j.val + 1, by omega⟩)
  pass d (.kw ⟨j.val, by omega⟩) (.kw ⟨j.val + 1, by omega⟩)
  pass d (.cx ⟨j.val, by omega⟩ 0) (.cx ⟨j.val + 1, by omega⟩ 0)
  pass d (.kx ⟨j.val, by omega⟩ 0) (.kx ⟨j.val + 1, by omega⟩ 0)
  pass d (.cx ⟨j.val, by omega⟩ 1) (.cx ⟨j.val + 1, by omega⟩ 1)
  pass d (.kx ⟨j.val, by omega⟩ 1) (.kx ⟨j.val + 1, by omega⟩ 1)
  mid ⟨j.val + 1, by omega⟩

/-- The seventh hop: passed on to the right only. -/
def hop7 (d : Dev nD) : Bd F PUnit := do
  pass d (.cw 6) (.cw 7)
  await (.kw 6)
  pass d (.cx 6 0) (.cx 7 0)
  await (.kx 6 0)
  pass d (.cx 6 1) (.cx 7 1)
  await (.kx 6 1)
  mid 7

/-- The eighth hop, half by half, and the activation. -/
def hop8 : Bd F PUnit := do
  let a : Elt F .f32 ← smemLoad sxM (Rect.unit (s := S1) ![0] S1.size inb_S1_S1_0) numel1_S1 rfl
  let b : Elt F .f32 ← smemLoad swM (Rect.unit (s := S1) ![0] S1.size inb_S1_S1_0) numel1_S1 rfl
  await (.cw 7)
  await (.cx 7 0)
  lastBlk (k0_pay49 a b) 0
  lastBlk (k0_pay49 a b) 1
  await (.cx 7 1)
  lastBlk (k0_pay49 a b) 2
  lastBlk (k0_pay49 a b) 3

/-- The barrier with both neighbours. -/
def hello (d : Dev nD) : Bd F PUnit := do
  semSignalWord (⟨k0_dev1 d, k0_dev1_lt d⟩ : Dev nD) (SemArray.scalar (sig.barrier 0 rfl) : Sems sig S_).sem 1#32
  semSignalWord (⟨k0_dev2 d, k0_dev2_lt d⟩ : Dev nD) (SemArray.scalar (sig.barrier 0 rfl) : Sems sig S_).sem 1#32
  semWaitWord (SemArray.scalar (sig.barrier 0 rfl) : Sems sig S_).sem 2#32

/-- The first hop: both neighbours are sent the device's own blocks. -/
def start (d : Dev nD) : Bd F PUnit := do
  send d (.cw 0)
  send d (.kw 0)
  send d (.cx 0 0)
  send d (.kx 0 0)
  send d (.cx 0 1)
  send d (.kx 0 1)

/-- The body. -/
def body : Bd F PUnit := do
  let d : Dev nD ← Prog.lift .deviceId
  hello d
  start d
  firstBlk 0
  firstBlk 1
  firstBlk 2
  firstBlk 3
  hop d 0
  hop d 1
  hop d 2
  hop d 3
  hop d 4
  hop d 5
  hop7 d
  hop8

/-- The printed body is the composition of the pieces: both unfold to the same line of operations. -/
theorem body_eq (t : Fin cfg0.N) : bodyAt0 (F := F) t = body (F := F) := by
  rw [fin_N0 t]
  sl_kernel_rfl

end Cert.KernelIdeal.RingGemm

end
-- ==== Proof.Contents.lean ====
module

public import proofs.«01_k».proof.Proof.Prog
public import Idealize.ShloMosaic.Lib.ValueIdx
public import Idealize.ShloMosaic.Lib.ValueIdxCore

/-! # What the buffers hold

The block of x and the block of w each device starts with travel round the ring
unchanged, so what a landing slot holds after its transfer is fixed in advance:
slot `h` of device `c` holds the block of device `c - h` if it came from the left,
of device `c + h` if it came from the right. This module names those contents and
shows that a transfer writes exactly them. -/

@[expose] public section

noncomputable section

namespace Cert.KernelIdeal.RingGemm

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-! ## The ring -/

/-- The device `k` steps to the left of `c`, -/
def back (c : Dev nD) (k : Nat) : Dev nD := ⟨(c.val + 16 - k) % 16, Nat.mod_lt _ (by decide)⟩
/-- and `k` steps to its right. -/
def fwd (c : Dev nD) (k : Nat) : Dev nD := ⟨(c.val + k) % 16, Nat.mod_lt _ (by decide)⟩

/-- No step back is the device itself. -/
theorem back_zero (c : Dev nD) : back c 0 = c := by
  revert c; decide
/-- No step forward is the device itself. -/
theorem fwd_zero (c : Dev nD) : fwd c 0 = c := by
  revert c; decide
/-- One step more, seen from the right neighbour; -/
theorem back_rt (c : Dev nD) (k : Nat) (hk : k < 16) : back (rt c) (k + 1) = back c k := by
  have h := k0_dev3_eq c
  have hc : c.val < 16 := c.isLt
  apply Fin.ext
  show (k0_dev3 c + 16 - (k + 1)) % 16 = (c.val + 16 - k) % 16
  omega
/-- seen from the left one. -/
theorem fwd_lf (c : Dev nD) (k : Nat) (_hk : k < 16) : fwd (lf c) (k + 1) = fwd c k := by
  have h := k0_dev4_eq c
  have hc : c.val < 16 := c.isLt
  apply Fin.ext
  show (k0_dev4 c + (k + 1)) % 16 = (c.val + k) % 16
  omega
/-- Left of the right neighbour is the device itself. -/
theorem lf_rt (c : Dev nD) : lf (rt c) = c := by
  have h := k0_dev3_eq c
  have h' := k0_dev4_eq (rt c)
  have hc : c.val < 16 := c.isLt
  apply Fin.ext
  show k0_dev4 (rt c) = c.val
  have e : (rt c).val = k0_dev3 c := rfl
  omega
/-- Right of the left neighbour is the device itself. -/
theorem rt_lf (c : Dev nD) : rt (lf c) = c := by
  have h := k0_dev4_eq c
  have h' := k0_dev3_eq (lf c)
  have hc : c.val < 16 := c.isLt
  apply Fin.ext
  show k0_dev3 (lf c) = c.val
  have e : (lf c).val = k0_dev4 c := rfl
  omega
/-- The first signal goes to the left neighbour, -/
theorem dev1_eq (c : Dev nD) : (⟨k0_dev1 c, k0_dev1_lt c⟩ : Dev nD) = lf c :=
  Fin.ext ((k0_dev1_eq c).trans (k0_dev4_eq c).symm)
/-- the second to the right one. -/
theorem dev2_eq (c : Dev nD) : (⟨k0_dev2 c, k0_dev2_lt c⟩ : Dev nD) = rt c :=
  Fin.ext ((k0_dev2_eq c).trans (k0_dev3_eq c).symm)

/-- One step round the ring, to the right. -/
def ring : Dev nD ≃ Dev nD := ⟨fun c => rt c, fun c => lf c, lf_rt, rt_lf⟩

/-! ## The contents -/

/-- Device `c`'s own block of x, as staged; -/
def xIn (c : Dev nD) : (cc0_stg0_0 : Ref sig .tc).ty.Contents (Elt F) :=
  (win0_0.blk (0 : Fin 1)).view.read (Elt F) (m ((c : Thread nD τ).loc main_arg0))
/-- its own block of w; -/
def wIn (c : Dev nD) : (cc0_stg1_0 : Ref sig .tc).ty.Contents (Elt F) :=
  (win0_1.blk (0 : Fin 1)).view.read (Elt F) (m ((c : Thread nD τ).loc main_arg1))
/-- the two scales. -/
def sxIn (c : Dev nD) : (cc0_stg2_0 : Ref sig .tc).ty.Contents (Elt F) :=
  (win0_2.blk (0 : Fin 1)).view.read (Elt F) (m ((c : Thread nD τ).loc main_arg2))
def swIn (c : Dev nD) : (cc0_stg3_0 : Ref sig .tc).ty.Contents (Elt F) :=
  (win0_3.blk (0 : Fin 1)).view.read (Elt F) (m ((c : Thread nD τ).loc main_arg3))

/-- The x blocks from the left: slot `h` is the block of device `c - h`. -/
def cxAll (c : Dev nD) : (cc0_scratch0 : Ref sig .tc).ty.Contents (Elt F) :=
  fun (i : S9x4096x256.Idx) => xIn m (back c (i 0).val) (ix2 (i 1) (i 2))
/-- The w blocks from the left. -/
def cwAll (c : Dev nD) : (cc0_scratch1 : Ref sig .tc).ty.Contents (Elt F) :=
  fun (i : S9x256x2048.Idx) => wIn m (back c (i 0).val) (ix2 (i 1) (i 2))
/-- The x blocks from the right: slot `h` is the block of device `c + h`. -/
def kxAll (c : Dev nD) : (cc0_scratch2 : Ref sig .tc).ty.Contents (Elt F) :=
  fun (i : S8x4096x256.Idx) => xIn m (fwd c (i 0).val) (ix2 (i 1) (i 2))
/-- The w blocks from the right. -/
def kwAll (c : Dev nD) : (cc0_scratch3 : Ref sig .tc).ty.Contents (Elt F) :=
  fun (i : S8x256x2048.Idx) => wIn m (fwd c (i 0).val) (ix2 (i 1) (i 2))

/-! ## The views read at an index -/

/-- Row `a` of half `f`, as a row of the block. -/
def halfRow (f : Fin 2) (a : Fin 2048) : Fin 4096 := ⟨2048 * f.val + a.val, by omega⟩

omit [FloatOps F] in
/-- Half `f` of an x block is read at row `2048 f` and down. -/
theorem read_xH (f : Fin 2) (A : (cc0_stg0_0 : Ref sig .tc).ty.Contents (Elt F)) (x : S2048x256.Idx) :
    (xH f).view.read (Elt F) A x = A (ix2 (halfRow f (x 0)) (x 1)) := by
  show A ((xRect f).emb x) = _
  congr 1
  funext a
  refine Fin.ext ?_
  rw [Rect.emb_apply]
  match a with
  | ⟨0, _⟩ => show 2048 * f.val + 1 * (x 0).val = 2048 * f.val + (x 0).val; omega
  | ⟨1, _⟩ => show 0 + 1 * (x 1).val = (x 1).val; omega

omit [FloatOps F] in
/-- A slot of x from the left, read; -/
theorem read_cxS (h : Fin 9) (f : Fin 2) (c : Dev nD) (x : S2048x256.Idx) :
    (cxS h f).view.read (Elt F) (cxAll m c) x = xIn m (back c h.val) (ix2 (halfRow f (x 0)) (x 1)) := by
  show cxAll m c ((cxRect h f).emb (Shape.reshapeEquiv _ x)) = _
  rw [Shape.reshapeEquiv_cons_one]
  have e : (cxRect h f).emb (Fin.cons ⟨0, Nat.one_pos⟩ x) = (ix3 h (halfRow f (x 0)) (x 1) : S9x4096x256.Idx) := by
    funext a
    refine Fin.ext ?_
    rw [Rect.emb_apply]
    match a with
    | ⟨0, _⟩ => show h.val + 1 * 0 = h.val; omega
    | ⟨1, _⟩ => show 2048 * f.val + 1 * (x 0).val = 2048 * f.val + (x 0).val; omega
    | ⟨2, _⟩ => show 0 + 1 * (x 1).val = (x 1).val; omega
  rw [e]
  rfl

omit [FloatOps F] in
/-- of w from the left; -/
theorem read_cwS (h : Fin 9) (c : Dev nD) (x : S256x2048.Idx) :
    (cwS h).view.read (Elt F) (cwAll m c) x = wIn m (back c h.val) x := by
  show cwAll m c ((cwRect h).emb (Shape.reshapeEquiv _ x)) = _
  rw [Shape.reshapeEquiv_cons_one]
  have e : (cwRect h).emb (Fin.cons ⟨0, Nat.one_pos⟩ x) = (ix3 h (x 0) (x 1) : S9x256x2048.Idx) := by
    funext a
    refine Fin.ext ?_
    rw [Rect.emb_apply]
    match a with
    | ⟨0, _⟩ => show h.val + 1 * 0 = h.val; omega
    | ⟨1, _⟩ => show 0 + 1 * (x 0).val = (x 0).val; omega
    | ⟨2, _⟩ => show 0 + 1 * (x 1).val = (x 1).val; omega
  rw [e]
  exact congrArg (wIn m (back c h.val)) (eq_ix2 (n0 := 256) (n1 := 2048) x).symm

omit [FloatOps F] in
/-- of x from the right; -/
theorem read_kxS (h : Fin 8) (f : Fin 2) (c : Dev nD) (x : S2048x256.Idx) :
    (kxS h f).view.read (Elt F) (kxAll m c) x = xIn m (fwd c h.val) (ix2 (halfRow f (x 0)) (x 1)) := by
  show kxAll m c ((kxRect h f).emb (Shape.reshapeEquiv _ x)) = _
  rw [Shape.reshapeEquiv_cons_one]
  have e : (kxRect h f).emb (Fin.cons ⟨0, Nat.one_pos⟩ x) = (ix3 h (halfRow f (x 0)) (x 1) : S8x4096x256.Idx) := by
    funext a
    refine Fin.ext ?_
    rw [Rect.emb_apply]
    match a with
    | ⟨0, _⟩ => show h.val + 1 * 0 = h.val; omega
    | ⟨1, _⟩ => show 2048 * f.val + 1 * (x 0).val = 2048 * f.val + (x 0).val; omega
    | ⟨2, _⟩ => show 0 + 1 * (x 1).val = (x 1).val; omega
  rw [e]
  rfl

omit [FloatOps F] in
/-- of w from the right. -/
theorem read_kwS (h : Fin 8) (c : Dev nD) (x : S256x2048.Idx) :
    (kwS h).view.read (Elt F) (kwAll m c) x = wIn m (fwd c h.val) x := by
  show kwAll m c ((kwRect h).emb (Shape.reshapeEquiv _ x)) = _
  rw [Shape.reshapeEquiv_cons_one]
  have e : (kwRect h).emb (Fin.cons ⟨0, Nat.one_pos⟩ x) = (ix3 h (x 0) (x 1) : S8x256x2048.Idx) := by
    funext a
    refine Fin.ext ?_
    rw [Rect.emb_apply]
    match a with
    | ⟨0, _⟩ => show h.val + 1 * 0 = h.val; omega
    | ⟨1, _⟩ => show 0 + 1 * (x 0).val = (x 0).val; omega
    | ⟨2, _⟩ => show 0 + 1 * (x 1).val = (x 1).val; omega
  rw [e]
  exact congrArg (wIn m (fwd c h.val)) (eq_ix2 (n0 := 256) (n1 := 2048) x).symm

/-! ## What a transfer reads and what it leaves -/

/-- The contents of the buffer transfer `t` of device `c` reads. -/
def srcAll (c : Dev nD) : (t : T) → Buf (Elt F) ((leg t).src.view.loc (c : Thread nD τ))
  | .cx ⟨0, _⟩ _ => xIn m c
  | .cx ⟨_ + 1, _⟩ _ => cxAll m c
  | .cw ⟨0, _⟩ => wIn m c
  | .cw ⟨_ + 1, _⟩ => cwAll m c
  | .kx ⟨0, _⟩ _ => xIn m c
  | .kx ⟨_ + 1, _⟩ _ => kxAll m c
  | .kw ⟨0, _⟩ => wIn m c
  | .kw ⟨_ + 1, _⟩ => kwAll m c

/-- The contents of the landing buffer of device `c` that transfer `t` of its neighbour fills a slot of. -/
def dstAll (c : Dev nD) : (t : T) → Buf (Elt F) ((leg t).dst.view.loc (c : Thread nD τ))
  | .cx ⟨0, _⟩ _ => cxAll m c
  | .cx ⟨_ + 1, _⟩ _ => cxAll m c
  | .cw ⟨0, _⟩ => cwAll m c
  | .cw ⟨_ + 1, _⟩ => cwAll m c
  | .kx ⟨0, _⟩ _ => kxAll m c
  | .kx ⟨_ + 1, _⟩ _ => kxAll m c
  | .kw ⟨0, _⟩ => kwAll m c
  | .kw ⟨_ + 1, _⟩ => kwAll m c

omit [FloatOps F] in
/-- What the transfer reads is what its landing slot is to hold. -/
theorem read_landed (c : Dev nD) (t : T) :
    (leg t).src.view.read (Elt F) (srcAll m c t) = (leg t).dst.view.read (Elt F) (dstAll m (peer c t) t) := by
  match t with
  | .cx ⟨0, _⟩ f =>
    funext x
    refine (read_xH f (xIn m c) x).trans (Eq.trans ?_ (read_cxS m 1 f (rt c) x).symm)
    rw [show ((1 : Fin 9).val) = 0 + 1 from rfl, back_rt c 0 (by decide), back_zero]
  | .cx ⟨j + 1, hj⟩ f =>
    funext x
    refine (read_cxS m ⟨j + 1, by omega⟩ f c x).trans (Eq.trans ?_ (read_cxS m ⟨j + 2, by omega⟩ f (rt c) x).symm)
    rw [back_rt c (j + 1) (by omega)]
  | .cw ⟨0, _⟩ =>
    funext x
    refine Eq.trans ?_ (read_cwS m 1 (rt c) x).symm
    rw [show ((1 : Fin 9).val) = 0 + 1 from rfl, back_rt c 0 (by decide), back_zero]
    rfl
  | .cw ⟨j + 1, hj⟩ =>
    funext x
    refine (read_cwS m ⟨j + 1, by omega⟩ c x).trans (Eq.trans ?_ (read_cwS m ⟨j + 2, by omega⟩ (rt c) x).symm)
    rw [back_rt c (j + 1) (by omega)]
  | .kx ⟨0, _⟩ f =>
    funext x
    refine (read_xH f (xIn m c) x).trans (Eq.trans ?_ (read_kxS m 1 f (lf c) x).symm)
    rw [show ((1 : Fin 8).val) = 0 + 1 from rfl, fwd_lf c 0 (by decide), fwd_zero]
  | .kx ⟨j + 1, hj⟩ f =>
    funext x
    refine (read_kxS m ⟨j + 1, by omega⟩ f c x).trans (Eq.trans ?_ (read_kxS m ⟨j + 2, by omega⟩ f (lf c) x).symm)
    rw [fwd_lf c (j + 1) (by omega)]
  | .kw ⟨0, _⟩ =>
    funext x
    refine Eq.trans ?_ (read_kwS m 1 (lf c) x).symm
    rw [show ((1 : Fin 8).val) = 0 + 1 from rfl, fwd_lf c 0 (by decide), fwd_zero]
    rfl
  | .kw ⟨j + 1, hj⟩ =>
    funext x
    refine (read_kwS m ⟨j + 1, by omega⟩ c x).trans (Eq.trans ?_ (read_kwS m ⟨j + 2, by omega⟩ (lf c) x).symm)
    rw [fwd_lf c (j + 1) (by omega)]

/-- Writing through a view what it reads of `B` makes its elements those of `B`. -/
theorem write_read_on {sp : Space} {s : Shape} {e : EltTy} (v : View sig .tc sp s e) (Val : EltTy → Type)
    (f B : v.ty.Contents Val) : ∀ i ∈ v.set, v.write Val f (v.read Val B) Finset.univ i = B i := by
  intro i hi
  obtain ⟨x, -, rfl⟩ := Finset.mem_map.mp hi
  rw [View.write_emb_of_mem _ _ (Finset.mem_univ x), View.read_apply, cast_cast, cast_eq]

omit [FloatOps F] in
/-- A transfer leaves its landing slot as it is to be. -/
theorem landed_on (c : Dev nD) (t : T) (fd : Buf (Elt F) ((leg t).dst.view.loc (peer c t : Thread nD τ))) :
    ∀ i ∈ (leg t).dst.view.set,
      (leg t).dst.view.write (Elt F) fd ((leg t).src.view.read (Elt F) (srcAll m c t)) Finset.univ i = dstAll m (peer c t) t i := by
  rw [read_landed]
  exact write_read_on (leg t).dst.view (Elt F) fd (dstAll m (peer c t) t)

end Cert.KernelIdeal.RingGemm

end
-- ==== Proof.Sched.lean ====
module

public import proofs.«01_k».proof.Proof.Contents
public import Idealize.ShloMosaic.Lib.Pipeline.Launch
public import Idealize.ShloMosaic.Lib.Pipeline.Kit
public import Idealize.ShloMosaic.Lib.Pipeline.BigSepL

/-! # The protocol

Every transfer has a semaphore that counts its departure on the sender and one that
counts its arrival on the receiver; both are used once. The barrier semaphore gets one
unit from each neighbour, and with it the neighbour's landing slots. This module states
what each count hands over, in which order the counts may be waited for, and what each
device owes. -/

@[expose] public section

noncomputable section

namespace Cert.KernelIdeal.RingGemm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra: the pipeline's share and the protocol's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The barrier semaphore. -/
abbrev barS : Sem sig := (SemArray.scalar (sig.barrier 0 rfl) : Sems sig S_).sem

/-- A transfer's two semaphores: `false` counts its departure, `true` its arrival. -/
def osem : Bool × T → SemLoc sig
  | (false, t) => .dma (leg t).ss
  | (true, t) => .dma (leg t).rs

/-- All the semaphores of the protocol: the barrier's and the transfers'. -/
def csem : Option (Bool × T) → SemLoc sig
  | none => .reg barS
  | some p => osem p

/-- The number of a right-going send semaphore. -/
theorem cSS_val : ∀ (j : Fin 8) (f : Fin 3), (cSS j f).val = 5 + 3 * j.val + f.val := by decide
/-- The number of a right-going receive semaphore. -/
theorem cRS_val : ∀ (j : Fin 8) (f : Fin 3), (cRS j f).val = 29 + 3 * j.val + f.val := by decide
/-- The number of a left-going send semaphore. -/
theorem kSS_val : ∀ (j : Fin 7) (f : Fin 3), (kSS j f).val = 53 + 3 * j.val + f.val := by decide
/-- The number of a left-going receive semaphore. -/
theorem kRS_val : ∀ (j : Fin 7) (f : Fin 3), (kRS j f).val = 74 + 3 * j.val + f.val := by decide

/-- The number of a transfer's semaphore. -/
def code : Bool × T → Nat
  | (false, .cx j f) => 5 + 3 * j.val + f.val
  | (false, .cw j) => 5 + 3 * j.val + 2
  | (false, .kx j f) => 53 + 3 * j.val + f.val
  | (false, .kw j) => 53 + 3 * j.val + 2
  | (true, .cx j f) => 29 + 3 * j.val + f.val
  | (true, .cw j) => 29 + 3 * j.val + 2
  | (true, .kx j f) => 74 + 3 * j.val + f.val
  | (true, .kw j) => 74 + 3 * j.val + 2

/-- The number of a transfer's send semaphore. -/
theorem ss_val (t : T) : (leg t).ss.val = code (false, t) := by
  match t with
  | .cx ⟨0, _⟩ f => exact cSS_val 0 f.castSucc
  | .cx ⟨j + 1, h⟩ f => exact cSS_val ⟨j + 1, h⟩ f.castSucc
  | .cw ⟨0, _⟩ => exact cSS_val 0 2
  | .cw ⟨j + 1, h⟩ => exact cSS_val ⟨j + 1, h⟩ 2
  | .kx ⟨0, _⟩ f => exact kSS_val 0 f.castSucc
  | .kx ⟨j + 1, h⟩ f => exact kSS_val ⟨j + 1, h⟩ f.castSucc
  | .kw ⟨0, _⟩ => exact kSS_val 0 2
  | .kw ⟨j + 1, h⟩ => exact kSS_val ⟨j + 1, h⟩ 2
/-- The number of a transfer's receive semaphore. -/
theorem rs_val (t : T) : (leg t).rs.val = code (true, t) := by
  match t with
  | .cx ⟨0, _⟩ f => exact cRS_val 0 f.castSucc
  | .cx ⟨j + 1, h⟩ f => exact cRS_val ⟨j + 1, h⟩ f.castSucc
  | .cw ⟨0, _⟩ => exact cRS_val 0 2
  | .cw ⟨j + 1, h⟩ => exact cRS_val ⟨j + 1, h⟩ 2
  | .kx ⟨0, _⟩ f => exact kRS_val 0 f.castSucc
  | .kx ⟨j + 1, h⟩ f => exact kRS_val ⟨j + 1, h⟩ f.castSucc
  | .kw ⟨0, _⟩ => exact kRS_val 0 2
  | .kw ⟨j + 1, h⟩ => exact kRS_val ⟨j + 1, h⟩ 2

/-- The semaphore is that number's. -/
theorem osem_code (p : Bool × T) : ∃ s : DmaSem sig, osem p = .dma s ∧ s.val = code p := by
  match p with
  | (false, t) => exact ⟨_, rfl, ss_val t⟩
  | (true, t) => exact ⟨_, rfl, rs_val t⟩

/-- The numbers of the semaphores are all different. -/
theorem code_inj : ∀ p q : Bool × T, code p = code q → p = q := by
  rintro ⟨b, t⟩ ⟨b', t'⟩ h
  cases b <;> cases b' <;> cases t <;> cases t' <;> simp only [code] at h <;>
    first
    | (exfalso; omega)
    | (simp only [Prod.mk.injEq, true_and, T.cx.injEq, T.cw.injEq, T.kx.injEq, T.kw.injEq, Fin.ext_iff]; omega)

/-- The semaphores of the copies are all different. -/
theorem osem_inj : Function.Injective osem := by
  intro p q h
  obtain ⟨s, hs, hv⟩ := osem_code p
  obtain ⟨s', hs', hv'⟩ := osem_code q
  rw [hs, hs'] at h
  injection h with h
  exact code_inj p q (by rw [← hv, ← hv', h])

/-- The semaphore of a copy is not the barrier. -/
theorem osem_ne_bar (p : Bool × T) : osem p ≠ .reg barS := by
  match p with
  | (false, t) => exact fun h => by cases h
  | (true, t) => exact fun h => by cases h

/-- The semaphores of the protocol are all different. -/
theorem csem_inj : Function.Injective csem := by
  intro p q h
  match p, q, h with
  | none, none, _ => rfl
  | none, some q, h => exact absurd h.symm (osem_ne_bar q)
  | some p, none, h => exact absurd h (osem_ne_bar p)
  | some p, some q, h => exact congrArg some (osem_inj h)

abbrev barC (c : Dev nD) : GSem nD τ sig := ((c : Thread nD τ), .reg barS)
abbrev sendC (c : Dev nD) (t : T) : GSem nD τ sig := ((c : Thread nD τ), .dma (leg t).ss)
abbrev recvC (c : Dev nD) (t : T) : GSem nD τ sig := ((c : Thread nD τ), .dma (leg t).rs)
abbrev kcell (ck : Dev nD × Option (Bool × T)) : GSem nD τ sig := ((ck.1 : Thread nD τ), csem ck.2)

open Classical in
/-- Which semaphore of the protocol a semaphore is, if it is one. -/
def kind (s : SemLoc sig) : Option (Option (Bool × T)) := if h : ∃ k, csem k = s then some h.choose else none

/-- The role of a semaphore is read off the semaphore. -/
theorem kind_csem (k : Option (Bool × T)) : kind (csem k) = some k := by
  have h : ∃ k', csem k' = csem k := ⟨k, rfl⟩
  unfold kind
  rw [dif_pos h]
  exact congrArg some (csem_inj h.choose_spec)
/-- The role of the barrier. -/
theorem kind_bar : kind (.reg barS) = some none := kind_csem none
/-- The role of a send semaphore. -/
theorem kind_ss (t : T) : kind (.dma (leg t).ss) = some (some (false, t)) := kind_csem (some (false, t))
/-- The role of a receive semaphore. -/
theorem kind_rs (t : T) : kind (.dma (leg t).rs) = some (some (true, t)) := kind_csem (some (true, t))
/-- The semaphores of the pipeline have no role in the protocol. -/
theorem kind_other {s : DmaSem sig} (h : s.val < 5) : kind (.dma s) = none := by
  unfold kind
  refine dif_neg ?_
  rintro ⟨_ | p, hk⟩
  · exact absurd hk (fun h => by cases h)
  · obtain ⟨s', hs', hv⟩ := osem_code p
    rw [show csem (some p) = osem p from rfl, hs'] at hk
    injection hk with hk
    rw [hk] at hv
    have : 5 ≤ code p := by
      rcases p with ⟨_ | _, _ | _ | _ | _⟩ <;> simp only [code] <;> omega
    omega

/-! ## The transfers' amounts, hops and shares -/

/-- The bytes transfer `t` counts. -/
def amt (t : T) : ℕ := (leg t).dst.view.dmaCredit
/-- The credit of a copy by its source is that by its destination. -/
theorem amt_src (t : T) : (leg t).src.view.dmaCredit = amt t := by
  match t with
  | .cx ⟨0, _⟩ _ => rfl
  | .cx ⟨_ + 1, _⟩ _ => rfl
  | .cw ⟨0, _⟩ => rfl
  | .cw ⟨_ + 1, _⟩ => rfl
  | .kx ⟨0, _⟩ _ => rfl
  | .kx ⟨_ + 1, _⟩ _ => rfl
  | .kw ⟨0, _⟩ => rfl
  | .kw ⟨_ + 1, _⟩ => rfl
/-- A copy moves something. -/
theorem amt_pos (t : T) : 0 < amt t := by
  match t with
  | .cx ⟨0, _⟩ _ => exact View.dmaCredit_pos _ (show 0 < S2048x256.numel by decide)
  | .cx ⟨_ + 1, _⟩ _ => exact View.dmaCredit_pos _ (show 0 < S2048x256.numel by decide)
  | .cw ⟨0, _⟩ => exact View.dmaCredit_pos _ (show 0 < S256x2048.numel by decide)
  | .cw ⟨_ + 1, _⟩ => exact View.dmaCredit_pos _ (show 0 < S256x2048.numel by decide)
  | .kx ⟨0, _⟩ _ => exact View.dmaCredit_pos _ (show 0 < S2048x256.numel by decide)
  | .kx ⟨_ + 1, _⟩ _ => exact View.dmaCredit_pos _ (show 0 < S2048x256.numel by decide)
  | .kw ⟨0, _⟩ => exact View.dmaCredit_pos _ (show 0 < S256x2048.numel by decide)
  | .kw ⟨_ + 1, _⟩ => exact View.dmaCredit_pos _ (show 0 < S256x2048.numel by decide)

/-- The hop of a transfer. -/
def hopOf : T → Nat
  | .cx j _ => j.val
  | .cw j => j.val
  | .kx j _ => j.val
  | .kw j => j.val

/-- Whether a transfer goes to the right. -/
def goesR : T → Bool
  | .cx _ _ => true
  | .cw _ => true
  | .kx _ _ => false
  | .kw _ => false

/-- The peer of a right-going transfer is the right neighbour. -/
theorem peer_R {c : Dev nD} {t : T} (h : goesR t = true) : peer c t = rt c := by
  match t, h with
  | .cx _ _, _ => rfl
  | .cw _, _ => rfl
/-- The peer of a left-going transfer is the left neighbour. -/
theorem peer_L {c : Dev nD} {t : T} (h : goesR t = false) : peer c t = lf c := by
  match t, h with
  | .kx _ _, _ => rfl
  | .kw _, _ => rfl

/-- The share of its source a transfer takes along: of the device's own blocks one share goes to
    the right, one to the left and one stays for the product; of a slot one half goes on. -/
def shr : T → PosShare TreeShare
  | .kx ⟨0, _⟩ _ => fullShare.right.left
  | .kw ⟨0, _⟩ => fullShare.right.left
  | _ => fullShare.left

/-! ## What the counts hand over -/

/-- The part of transfer `t`'s source that device `c` lends to it. -/
def srcPts (c : Dev nD) (t : T) : sProp 𝕄 :=
  (leg t).src.view.loc (c : Thread nD τ) ↦[(leg t).src.view.set]{shr t} srcAll m c t
/-- The slot of device `c` the neighbour's transfer `t` fills, filled, at a share. -/
def landPts (q : PosShare TreeShare) (c : Dev nD) (t : T) : sProp 𝕄 :=
  (leg t).dst.view.loc (c : Thread nD τ) ↦[(leg t).dst.view.set]{q} dstAll m c t
/-- That slot before. -/
def free (c : Dev nD) (t : T) : sProp 𝕄 :=
  iprop(∃ f : Buf (Elt F) ((leg t).dst.view.loc (c : Thread nD τ)), (leg t).dst.view.loc (c : Thread nD τ) ↦[(leg t).dst.view.set]{fullShare} f)
/-- The barrier's units hand device `c` the slots its transfers go to: `true`, from the right neighbour, that
    neighbour's slots for what comes from its left; `false` the left neighbour's for what comes from its right. -/
def barPay (c : Dev nD) (d : Bool) : sProp 𝕄 :=
  bigSep (Finset.univ.filter fun t => goesR t = d) fun t => free (F := F) (peer c t) t

omit [FloatOps F] in
instance srcPts_storable (c : Dev nD) (t : T) : BI.Storable (upEmb : UEmb _ 𝕄) (srcPts m c t) := by unfold srcPts; infer_instance
omit [FloatOps F] in
instance landPts_storable (q : PosShare TreeShare) (c : Dev nD) (t : T) : BI.Storable (upEmb : UEmb _ 𝕄) (landPts m q c t) := by unfold landPts; infer_instance
omit [FloatOps F] in
instance free_storable (c : Dev nD) (t : T) : BI.Storable (upEmb : UEmb _ 𝕄) (free (F := F) c t) := by unfold free; infer_instance
omit [FloatOps F] in
instance barPay_storable (c : Dev nD) (d : Bool) : BI.Storable (upEmb : UEmb _ 𝕄) (barPay (F := F) c d) := by unfold barPay; infer_instance

/-! ## The schedule -/

/-- What a semaphore's duties are, -/
def dutiesOf : Option (Option (Bool × T)) → Finset Bool
  | none => ∅
  | some none => Finset.univ
  | some (some _) => {false}
/-- what each counts, -/
def amountOf : Option (Option (Bool × T)) → ℕ
  | some (some (_, t)) => amt t
  | _ => 1
/-- and what each hands over on device `c`. -/
def payOf (c : Dev nD) (d : Bool) : Option (Option (Bool × T)) → sProp 𝕄
  | none => iprop(emp)
  | some none => barPay c d
  | some (some (false, t)) => srcPts m c t
  | some (some (true, t)) => landPts m fullShare c t

omit [FloatOps F] in
instance payOf_storable (c : Dev nD) (d : Bool) (k : Option (Option (Bool × T))) : BI.Storable (upEmb : UEmb _ 𝕄) (payOf m c d k) := by
  match k with
  | none => unfold payOf; infer_instance
  | some none => unfold payOf; infer_instance
  | some (some (false, t)) => unfold payOf; infer_instance
  | some (some (true, t)) => unfold payOf; infer_instance

/-- One round. -/
def Rd : Rounds.Schedule (GSem nD τ sig) Bool 𝕄 where
  duties g r := if r = 0 ∧ g.1.2 = .tc then dutiesOf (kind g.2) else ∅
  unitless _ := False
  amount g _ _ := amountOf (kind g.2)
  payload g _ d := payOf m g.1.1 d (kind g.2)
  amount_pos g _ _ _ := by
    rcases kind g.2 with _ | _ | ⟨_, t⟩
    · exact Nat.one_pos
    · exact Nat.one_pos
    · exact amt_pos t

instance Rd_payload_storable (g : GSem nD τ sig) (r : ℕ) (d : Bool) :
    BI.Storable (upEmb : UEmb _ 𝕄) ((Rd (F := F) m).payload g r d) :=
  payOf_storable m g.1.1 d (kind g.2)

section Sched
variable (c : Dev nD) (t : T)

omit [FloatOps F] in
/-- A barrier has two duties, one from each side. -/
theorem duties_bar : (Rd (F := F) m).duties (barC c) 0 = Finset.univ := by
  dsimp only [Rd]; rw [if_pos ⟨rfl, rfl⟩, kind_bar]; rfl
omit [FloatOps F] in
/-- A send semaphore has one duty. -/
theorem duties_send : (Rd (F := F) m).duties (sendC c t) 0 = {false} := by
  dsimp only [Rd]; rw [if_pos ⟨rfl, rfl⟩, kind_ss]; rfl
omit [FloatOps F] in
/-- A receive semaphore has one duty. -/
theorem duties_recv : (Rd (F := F) m).duties (recvC c t) 0 = {false} := by
  dsimp only [Rd]; rw [if_pos ⟨rfl, rfl⟩, kind_rs]; rfl
omit [FloatOps F] in
/-- No semaphore is used for a second round. -/
theorem duties_later (g : GSem nD τ sig) : ∀ r, 1 ≤ r → (Rd (F := F) m).duties g r = ∅ :=
  fun r hr => by dsimp only [Rd]; rw [if_neg fun h => by omega]

omit [FloatOps F] in
/-- A signal of the barrier counts one. -/
theorem amount_bar (d : Bool) : (Rd (F := F) m).amount (barC c) 0 d = 1 := by dsimp only [Rd]; rw [kind_bar]; rfl
omit [FloatOps F] in
/-- A send counts what its copy moves. -/
theorem amount_send (d : Bool) : (Rd (F := F) m).amount (sendC c t) 0 d = amt t := by dsimp only [Rd]; rw [kind_ss]; rfl
omit [FloatOps F] in
/-- A receipt counts what its copy moves. -/
theorem amount_recv (d : Bool) : (Rd (F := F) m).amount (recvC c t) 0 d = amt t := by dsimp only [Rd]; rw [kind_rs]; rfl

omit [FloatOps F] in
/-- What a signal of the barrier hands over. -/
theorem payload_bar (d : Bool) : (Rd (F := F) m).payload (barC c) 0 d = barPay c d := by dsimp only [Rd]; rw [kind_bar]; rfl
omit [FloatOps F] in
/-- A send hands its source back. -/
theorem payload_send (d : Bool) : (Rd (F := F) m).payload (sendC c t) 0 d = srcPts m c t := by dsimp only [Rd]; rw [kind_ss]; rfl
omit [FloatOps F] in
/-- A receipt hands over what has landed. -/
theorem payload_recv (d : Bool) : (Rd (F := F) m).payload (recvC c t) 0 d = landPts m fullShare c t := by dsimp only [Rd]; rw [kind_rs]; rfl

omit [FloatOps F] in
/-- A barrier expects two signals. -/
theorem expect_bar : (Rd (F := F) m).expect (barC c) 0 = 2 := by
  unfold Schedule.expect Schedule.amountOf
  rw [duties_bar, Finset.sum_congr rfl fun d _ => amount_bar m c d, Finset.sum_const, Finset.card_univ, Fintype.card_bool, smul_eq_mul]
omit [FloatOps F] in
/-- A send semaphore expects what its copy moves. -/
theorem expect_send : (Rd (F := F) m).expect (sendC c t) 0 = amt t := by
  unfold Schedule.expect Schedule.amountOf; rw [duties_send, Finset.sum_singleton, amount_send]
omit [FloatOps F] in
/-- A receive semaphore expects what its copy moves. -/
theorem expect_recv : (Rd (F := F) m).expect (recvC c t) 0 = amt t := by
  unfold Schedule.expect Schedule.amountOf; rw [duties_recv, Finset.sum_singleton, amount_recv]

omit [FloatOps F] in
/-- The barrier's two payloads together are the neighbours' slots for all of this device's transfers. -/
theorem rest_bar : bigSep ((Rd (F := F) m).duties (barC c) 0 \ ∅) (fun d => (Rd (F := F) m).payload (barC c) 0 d)
    = bigSep Finset.univ fun t => free (F := F) (peer c t) t := by
  rw [Finset.sdiff_empty, duties_bar, bigSep_univ_eq_bigSepL [true, false] (by decide) (by decide), bigSepL_cons_cons, bigSepL_singleton,
    payload_bar, payload_bar]
  unfold barPay
  rw [bigSep_filter_split (Φ := fun t => free (F := F) (peer c t) t) Finset.univ (fun t => goesR t = true)]
  simp only [Bool.not_eq_true]
omit [FloatOps F] in
/-- All that a send semaphore hands over. -/
theorem rest_send : bigSep ((Rd (F := F) m).duties (sendC c t) 0 \ ∅) (fun d => (Rd (F := F) m).payload (sendC c t) 0 d) = srcPts m c t := by
  rw [Finset.sdiff_empty, duties_send, bigSep_singleton, payload_send]
omit [FloatOps F] in
/-- All that a receive semaphore hands over. -/
theorem rest_recv : bigSep ((Rd (F := F) m).duties (recvC c t) 0 \ ∅) (fun d => (Rd (F := F) m).payload (recvC c t) 0 d) = landPts m fullShare c t := by
  rw [Finset.sdiff_empty, duties_recv, bigSep_singleton, payload_recv]

end Sched

/-! ## What is owed, and the levels -/

/-- The transfers of one hop of the first seven, in the order they are started and awaited, -/
def six (j : Fin 7) : List T := [.cw ⟨j.val, by omega⟩, .kw j, .cx ⟨j.val, by omega⟩ 0, .kx j 0, .cx ⟨j.val, by omega⟩ 1, .kx j 1]
/-- and of the last `k` hops. -/
def later : Nat → List T
  | 0 => []
  | 1 => [.cw 7, .cx 7 0, .cx 7 1]
  | k + 2 => six ⟨6 - k, by omega⟩ ++ later (k + 1)

/-- No transfer is listed twice. -/
theorem later_nodup : (later 8).Nodup := by decide
/-- Every transfer is listed. -/
theorem later_univ : (Finset.univ : Finset T) = (later 8).toFinset := by decide

/-- What device `c` owes while the transfers `ts` are still to be started: their arrivals at the neighbours. -/
def owedL (c : Dev nD) : List T → CellTallies nD τ sig Unit
  | [] => 0
  | t :: ts => owedL c ts + tallyAt (recvC (peer c t) t) () (amt t)

/-- At launch it owes in addition a unit to each neighbour's barrier. -/
def O₁ (c : Dev nD) : CellTallies nD τ sig Unit := owedL c (later 8) + tallyAt (barC (rt c)) () 1
def O₀ (c : Dev nD) : CellTallies nD τ sig Unit := O₁ c + tallyAt (barC (lf c)) () 1

/-- A semaphore that a list of transfers owes is the receipt of one of them. -/
theorem owedL_pos {c : Dev nD} {ts : List T} {g : GSem nD τ sig} {u : Unit} (h : 0 < owedL c ts g u) :
    ∃ t ∈ ts, g = recvC (peer c t) t := by
  induction ts with
  | nil => exact absurd h (Nat.lt_irrefl 0)
  | cons t ts ih =>
    unfold owedL at h
    rw [Pi.add_apply, Finsupp.add_apply, tallyAt_apply] at h
    by_cases hg : g = recvC (peer c t) t ∧ u = ()
    · exact ⟨t, List.mem_cons_self, hg.1⟩
    · rw [if_neg hg, Nat.add_zero] at h
      obtain ⟨t', ht', e⟩ := ih h
      exact ⟨t', List.mem_cons_of_mem _ ht', e⟩

/-- A semaphore owed among two barriers and a list of transfers is one of these. -/
theorem owed_bar_pos {c : Dev nD} {ts : List T} {a b g : GSem nD τ sig} {u : Unit}
    (h : 0 < (owedL c ts + tallyAt a () 1 + tallyAt b () 1 : CellTallies nD τ sig Unit) g u) :
    (∃ t ∈ ts, g = recvC (peer c t) t) ∨ g = a ∨ g = b := by
  rw [Pi.add_apply, Finsupp.add_apply, Pi.add_apply, Finsupp.add_apply, tallyAt_apply, tallyAt_apply] at h
  by_cases h1 : g = a
  · exact .inr (.inl h1)
  · by_cases h2 : g = b
    · exact .inr (.inr h2)
    · rw [if_neg (fun h' => h1 h'.1), if_neg (fun h' => h2 h'.1)] at h
      exact .inl (owedL_pos h)
/-- A semaphore owed at the start is a neighbour's barrier or a receipt. -/
theorem O₀_pos {c : Dev nD} {g : GSem nD τ sig} {u : Unit} (h : 0 < O₀ c g u) :
    (∃ t ∈ later 8, g = recvC (peer c t) t) ∨ g = barC (rt c) ∨ g = barC (lf c) := by
  unfold O₀ O₁ at h
  exact owed_bar_pos h

def L (g : GSem nD τ sig) : Finset Unit := if g.1.2 = .tc then {()} else ∅
/-- The levels: the barrier below the arrivals, a hop's arrivals below the next hop's, all else at the bottom. -/
def lvOf : Option (Option (Bool × T)) → ℕ
  | some none => 1
  | some (some (true, t)) => hopOf t + 2
  | _ => 0
def lv (g : GSem nD τ sig) (_ : Unit) : ℕ := lvOf (kind g.2)

/-- Other cores have no levels. -/
theorem L_of_ne (g : GSem nD τ sig) (h : g.1.2 ≠ .tc) : L g = ∅ := if_neg h
/-- A semaphore of a core that runs the body has one level. -/
theorem L_tc (c : Dev nD) (sm : SemLoc sig) : L ((c : Thread nD τ), sm) = {()} := if_pos rfl
/-- The level of a barrier. -/
theorem lv_bar (c : Dev nD) : lv (barC c) () = 1 := by unfold lv; rw [kind_bar]; rfl
/-- The level of a send semaphore. -/
theorem lv_send (c : Dev nD) (t : T) : lv (sendC c t) () = 0 := by unfold lv; rw [kind_ss]; rfl
/-- The level of a receive semaphore grows with the hop. -/
theorem lv_recv (c : Dev nD) (t : T) : lv (recvC c t) () = hopOf t + 2 := by unfold lv; rw [kind_rs]; rfl

omit [FloatOps F] in
/-- A wait is in order while only transfers of later hops are owed. -/
theorem mayWait_owed (c : Dev nD) (s : SemLoc sig) (ts : List T) (h : ∀ t ∈ ts, lv ((c : Thread nD τ), s) () < hopOf t + 2) :
    (levAts L lv : sProp 𝕄) ⊢ MayWait (c : Thread nD τ) s () (owedL c ts) :=
  MayOwe.of_cut (L := L) (lev := lv) (lv ((c : Thread nD τ), s) ())
    (fun p hp => by rw [Finset.mem_singleton.mp hp, L_tc]; exact Finset.mem_singleton_self _)
    (fun g u hg => by obtain ⟨t, -, rfl⟩ := owedL_pos hg; exact Finset.mem_singleton_self _)
    (fun p hp => by rw [Finset.mem_singleton.mp hp])
    (fun g u hg => by obtain ⟨t, ht, rfl⟩ := owedL_pos hg; rw [show u = () from rfl, lv_recv]; exact h t ht)

omit [FloatOps F] in
/-- The staging semaphores may be waited for whatever is owed. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  have hl : lv ((c : Thread nD τ), .dma q) () = 0 := by unfold lv; rw [kind_other hq]; rfl
  rcases hO with rfl | rfl
  · refine MayOwe.of_cut (L := L) (lev := lv) 0 (fun p hp => by rw [Finset.mem_singleton.mp hp, L_tc]; exact Finset.mem_singleton_self _)
      (fun g u hg => by rcases O₀_pos hg with ⟨t, -, rfl⟩ | rfl | rfl <;> exact Finset.mem_singleton_self _)
      (fun p hp => by rw [Finset.mem_singleton.mp hp]; exact hl.le)
      (fun g u hg => by
        rcases O₀_pos hg with ⟨t, -, rfl⟩ | rfl | rfl
        · rw [show u = () from rfl, lv_recv]; omega
        · rw [show u = () from rfl, lv_bar]; omega
        · rw [show u = () from rfl, lv_bar]; omega)
  · rw [MayWait_zero]; iintro -; iempintro

end Cert.KernelIdeal.RingGemm

end
-- ==== Proof.Steps.lean ====
module

public import proofs.«01_k».proof.Proof.Sched

/-! # The transfers, one step at a time

What one start, one wait and one barrier handshake take and give. -/

@[expose] public section

noncomputable section

namespace Cert.KernelIdeal.RingGemm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Option (Bool × T) → ℕ)

abbrev 𝒱₀ : Variants := Variants.none

/-! ## What a device holds -/

/-- Every cell's invariant, at the names `K`, and that its round has begun. -/
def records : sProp 𝕄 :=
  iprop((bigSep Finset.univ fun ck : Dev nD × Option (Bool × T) => cellInv ER (Rd m) (K ck) (kcell ck))
    ∗ bigSep Finset.univ fun ck : Dev nD × Option (Bool × T) => reached ER (kcell ck) 0)

omit [FloatOps F] in
instance records_persistent : BI.Persistent (records m K) := by unfold records; infer_instance

omit [FloatOps F] in
/-- The records hold the invariant of each cell. -/
theorem inv_at (ck : Dev nD × Option (Bool × T)) : records m K ⊢ cellInv ER (Rd m) (K ck) (kcell ck) := by
  have h : (bigSep Finset.univ fun ck : Dev nD × Option (Bool × T) => (cellInv ER (Rd m) (K ck) (kcell ck) : sProp 𝕄)) ⊢ cellInv ER (Rd m) (K ck) (kcell ck) :=
    bigSep_elim (Finset.mem_univ ck)
  unfold records
  iintro ⟨HI, -⟩
  iapply h
  iexact HI
omit [FloatOps F] in
/-- The records hold that each cell is at its first round. -/
theorem reached_at (ck : Dev nD × Option (Bool × T)) : records m K ⊢ reached ER (kcell ck) 0 := by
  have h : (bigSep Finset.univ fun ck : Dev nD × Option (Bool × T) => (reached ER (kcell ck) 0 : sProp 𝕄)) ⊢ reached ER (kcell ck) 0 :=
    bigSep_elim (Finset.mem_univ ck)
  unfold records
  iintro ⟨-, HR⟩
  iapply h
  iexact HR

/-- What a device spends to start transfer `t`: the two counts' duties, -/
def sendTok (c : Dev nD) (t : T) : sProp 𝕄 := iprop(dutyTok ER (sendC c t) 0 false ∗ dutyTok ER (recvC (peer c t) t) 0 false)
/-- to wait for it: its positions and the credit of its arrival. -/
def waitTok (c : Dev nD) (t : T) : sProp 𝕄 :=
  iprop(atPos ER (sendC c t) 0 ∅ 0 ∗ atPos ER (recvC c t) 0 ∅ 0 ∗ cred (tallyAt (recvC c t) () (amt t)))
/-- The transfer is under way: the credit of its departure. -/
def fly (c : Dev nD) (t : T) : sProp 𝕄 := cred (tallyAt (sendC c t) () (amt t))
/-- Both counts are back at zero. -/
def shut (c : Dev nD) (t : T) : sProp 𝕄 := iprop(semVal (sendC c t) 0 ∗ semVal (recvC c t) 0)

/-! ## One start -/

/-- A start spends its duties, its source's share and the neighbour's free slot, and pays what it owed. -/
theorem send_spec (c : Dev nD) (t : T) (ts : List T) (W : Waits sig Unit) {α : Type} (k : PUnit → Bd F α) (Q : α → sProp 𝕄) :
    iprop(records m K ∗ srcPts m c t ∗ free (peer c t) t ∗ sendTok c t ∗ owes (c : Thread nD τ) (owedL c (t :: ts)) W)
      ⊢ iprop(((fly c t ∗ owes (c : Thread nD τ) (owedL c ts) W) -∗ wp frame (wpE (defs₀ (F := F)) 𝒱₀ (c : Thread nD τ) none) Set.univ (k ⟨⟩) Q)
          -∗ wp frame (wpE (defs₀ (F := F)) 𝒱₀ (c : Thread nD τ) none) Set.univ (send c t >>= k) Q) := by
  unfold send free sendTok fly srcPts
  simp only [Prog.lift, Prog.bind_op, Prog.bind_ret]
  iintro ⟨#HR, Hs, ⟨%fd, Hd⟩, ⟨Ht1, Ht2⟩, HO⟩
  iapply (Rounds.wp_send_pointsTo 𝒱₀ ER (Rd m) (c : Thread nD τ) none (κ₁ := K (c, some (false, t))) (κ₂ := K (peer c t, some (true, t)))
    (r₁ := 0) (r₂ := 0) (d₁ := false) (d₂ := false) (fd := fd)
    (by rw [duties_send]; exact Finset.mem_singleton_self _) (by rw [duties_recv]; exact Finset.mem_singleton_self _)
    () () (amt t) rfl (amount_send m c t false) (amount_recv m (peer c t) t false) (owedL c ts) rfl (W := W)
    (by rw [payload_send]; exact BI.Entails.refl _)
    (by rw [payload_recv]; unfold landPts; exact Entails.of_eq (pointsTo_congr (landed_on m c t fd)))) $$ [Hs Hd Ht1 Ht2 HO]
  isplitr; · iapply (inv_at m K (c, some (false, t))); iexact HR
  isplitr; · iapply (inv_at m K (peer c t, some (true, t))); iexact HR
  isplitl [Hs]; · iexact Hs
  isplitl [Hd]; · iexact Hd
  isplitl [HO]; · iexact HO
  isplitl [Ht1]; · iexact Ht1
  isplitr; · iapply (reached_at m K (c, some (false, t))); iexact HR
  isplitl [Ht2]; · iexact Ht2
  iapply (reached_at m K (peer c t, some (true, t))); iexact HR

/-! ## One wait -/

/-- The two waits of a transfer give back its source's share and the slot the neighbour filled. -/
theorem await_spec (c : Dev nD) (t : T) (ts : List T) (hts : ∀ t' ∈ ts, hopOf t < hopOf t') (W : Waits sig Unit)
    {α : Type} (k : PUnit → Bd F α) (Q : α → sProp 𝕄) :
    iprop(records m K ∗ levAts L lv ∗ waitTok c t ∗ fly c t ∗ owes (c : Thread nD τ) (owedL c ts) W)
      ⊢ iprop(((srcPts m c t ∗ landPts m fullShare c t ∗ shut c t ∗ ∃ W', owes (c : Thread nD τ) (owedL c ts) W')
            -∗ wp frame (wpE (defs₀ (F := F)) 𝒱₀ (c : Thread nD τ) none) Set.univ (k ⟨⟩) Q)
          -∗ wp frame (wpE (defs₀ (F := F)) 𝒱₀ (c : Thread nD τ) none) Set.univ (await t >>= k) Q) := by
  unfold await waitTok fly shut
  simp only [Prog.lift, Prog.bind_op, Prog.bind_ret]
  iintro ⟨#HR, #Hl, ⟨HaS, HaV, HcV⟩, HcS, HO⟩ Hk
  iapply (Rounds.wp_wait_rest_token 𝒱₀ ER (Rd m) (c : Thread nD τ) none (κ := K (c, some (true, t)))
      (wpE_waitDma2_eq 𝒱₀ (c : Thread nD τ) none Set.univ) (Set.mem_univ _) () (O := owedL c ts) (W := W) (R := 0) (m := 0) (T := ∅)
      (by rw [Nat.zero_add, expect_recv]; rfl)) $$ [HcV HO HaV]
  · isplitr; · iapply (inv_at m K (c, some (true, t))); iexact HR
    isplitl [HcV]; · iexact HcV
    isplitl [HO]; · iexact HO
    isplitr; · iapply (mayWait_owed c _ ts (fun t' ht' => by rw [lv_recv]; exact Nat.add_lt_add_right (hts t' ht') 2)); iexact Hl
    iexact HaV
  iintro ⟨HO, HaV, -, Hpay⟩
  ihave HL := (Entails.of_eq (rest_recv m c t)) $$ Hpay
  iapply (Rounds.wp_wait_rest_token 𝒱₀ ER (Rd m) (c : Thread nD τ) none (κ := K (c, some (false, t)))
      (wpE_waitDma2_eq 𝒱₀ (c : Thread nD τ) none Set.univ) (Set.mem_univ _) () (O := owedL c ts) (R := 0) (m := 0) (T := ∅)
      (by rw [Nat.zero_add, expect_send]; exact amt_src t)) $$ [HcS HO HaS]
  · isplitr; · iapply (inv_at m K (c, some (false, t))); iexact HR
    isplitl [HcS]; · iapply (Entails.of_eq (by rw [show (leg t).src.view.dmaCredit = amt t from amt_src t])); iexact HcS
    isplitl [HO]; · iexact HO
    isplitr; · iapply (mayWait_owed c _ ts (fun t' ht' => by rw [lv_send]; omega)); iexact Hl
    iexact HaS
  iintro ⟨HO, HaS, -, Hpay⟩
  ihave HS := (Entails.of_eq (rest_send m c t)) $$ Hpay
  imod (Rounds.cell_close ER (Rd m) (Set.mem_univ (K (c, some (false, t)))) (fun h => h) (R := 0 + 1) (duties_later m (sendC c t))) $$ [HaS] with HzS
  · isplitr; · iapply (inv_at m K (c, some (false, t))); iexact HR
    iexact HaS
  imod (Rounds.cell_close ER (Rd m) (Set.mem_univ (K (c, some (true, t)))) (fun h => h) (R := 0 + 1) (duties_later m (recvC c t))) $$ [HaV] with HzV
  · isplitr; · iapply (inv_at m K (c, some (true, t))); iexact HR
    iexact HaV
  iapply Hk
  isplitl [HS]; · iexact HS
  isplitl [HL]; · iexact HL
  isplitl [HzS HzV]
  · isplitl [HzS] <;> iassumption
  iexists _; iexact HO

end Cert.KernelIdeal.RingGemm

end
-- ==== Proof.Blocks.lean ====
module

public import proofs.«01_k».proof.Proof.Steps

/-! # The products

The result is built up in place, a block of 1024 rows at a time: the device's own blocks
first, then at each hop the two blocks that came, at the last hop the one block that came
and the activation. This module names the values the row blocks go through and says what
one update of one row block takes and gives. -/

@[expose] public section

noncomputable section

namespace Cert.KernelIdeal.RingGemm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The values -/

abbrev wRect : Rect S256x2048 := Rect.unit (s := S256x2048) ![0, 0] S256x2048.size inb_S256x2048_S256x2048_0_0
abbrev oneRect : Rect S1 := Rect.unit (s := S1) ![0] S1.size inb_S1_S1_0

/-- Row block `r` of the device's own block of x, and its block of w; -/
def xB (c : Dev nD) (r : Fin 4) : Vec F S1024x256 .fp8e5m2 := (xM.access (xrRect r)).read (Elt F) (xIn m c)
def wB (c : Dev nD) : Vec F S256x2048 .fp8e5m2 := (wM.access wRect).read (Elt F) (wIn m c)
/-- the same of slot `h`, from the left -/
def cxB (c : Dev nD) (h : Fin 9) (r : Fin 4) : Vec F S1x1024x256 .fp8e5m2 := (cxM.access (cxrRect h r)).read (Elt F) (cxAll m c)
def cwB (c : Dev nD) (h : Fin 9) : Vec F S1x256x2048 .fp8e5m2 := (cwM.access (cwRect h)).read (Elt F) (cwAll m c)
/-- and from the right. -/
def kxB (c : Dev nD) (h : Fin 8) (r : Fin 4) : Vec F S1x1024x256 .fp8e5m2 := (kxM.access (kxrRect h r)).read (Elt F) (kxAll m c)
def kwB (c : Dev nD) (h : Fin 8) : Vec F S1x256x2048 .fp8e5m2 := (kwM.access (kwRect h)).read (Elt F) (kwAll m c)
/-- The product of the two scales. -/
def scl (c : Dev nD) : F .f32 :=
  k0_pay49 ((sxM.access oneRect).read (Elt F) (sxIn m c) (Shape.Idx.first (numel1_S1.symm ▸ Nat.one_pos)))
    ((swM.access oneRect).read (Elt F) (swIn m c) (Shape.Idx.first (numel1_S1.symm ▸ Nat.one_pos)))

/-- Row block `r` of the result after hop `k`, hop 0 being the device's own product. -/
def acc (c : Dev nD) : Nat → Fin 4 → Vec F S1024x2048 .f32
  | 0, r => k0_pay2 (xB m c r) (wB m c)
  | k + 1, r =>
    if h : k + 1 < 8 then k0_pay7 (cwB m c ⟨k + 1, by omega⟩) (kwB m c ⟨k + 1, h⟩) (cxB m c ⟨k + 1, by omega⟩ r) (kxB m c ⟨k + 1, h⟩ r) (acc c k r)
    else k0_pay50 (scl m c) (acc c k r) (cxB m c 8 r) (cwB m c 8)

/-- What a row block of the result holds after a middle hop: what it held, and the product of the blocks that came. -/
theorem acc_mid (c : Dev nD) (h : Fin 8) (k : Nat) (hk : h.val = k + 1) (r : Fin 4) :
    acc m c (k + 1) r = k0_pay7 (cwB m c h.castSucc) (kwB m c h) (cxB m c h.castSucc r) (kxB m c h r) (acc m c k r) := by
  have h8 : k + 1 < 8 := hk ▸ h.isLt
  obtain rfl : h = ⟨k + 1, h8⟩ := Fin.ext hk
  rw [acc, dif_pos (by omega)]
  rfl
/-- What a row block of the result holds after the last hop, the activation included. -/
theorem acc_last (c : Dev nD) (r : Fin 4) : acc m c 8 r = k0_pay50 (scl m c) (acc m c 7 r) (cxB m c 8 r) (cwB m c 8) := by
  rw [acc, dif_neg (by decide)]

/-! ## The result buffer -/

/-- Row block `r` of the result buffer's contents. -/
def oblk (r : Fin 4) (g : (cc0_stg4_0 : Ref sig .tc).ty.Contents (Elt F)) : Vec F S1024x2048 .f32 := (oM.access (oRect r)).read (Elt F) g

/-- The result buffer of device `c`, the row blocks `P` gives a hop being at that hop. -/
def outIs (c : Dev nD) (P : Fin 4 → Option Nat) : sProp 𝕄 :=
  iprop(∃ g : Buf (Elt F) ((c : Thread nD τ).loc cc0_stg4_0), ⌜∀ r k, P r = some k → oblk r g = acc m c k r⌝ ∗ (((c : Thread nD τ).loc cc0_stg4_0) ↦{fullShare} g))

omit [FloatOps F] in
/-- What a store of row block `r` leaves in row block `r'`. -/
theorem oblk_write (r r' : Fin 4) (g : (cc0_stg4_0 : Ref sig .tc).ty.Contents (Elt F)) (w : Vec F S1024x2048 .f32) :
    oblk r' ((oM.access (oRect r)).write (Elt F) g w Finset.univ) = if r' = r then w else oblk r' g := by
  unfold oblk
  split
  · next h => subst h; exact View.read_write_univ _ _
  · next h =>
    refine View.read_slice_write_slice_of_disjoint (v := oM.view) (oRect r') (oRect r) g w Finset.univ ?_
    rw [View.setOn_univ, Finset.disjoint_left]
    intro i hi hi'
    rw [View.set_slice_whole, Rect.mem_set_unit] at hi hi'
    have h0 := hi 0
    have h1 := hi' 0
    apply h
    apply Fin.ext
    have a0 : 1024 * r'.val ≤ (i 0).val ∧ (i 0).val < 1024 * r'.val + 1024 := h0
    have a1 : 1024 * r.val ≤ (i 0).val ∧ (i 0).val < 1024 * r.val + 1024 := h1
    omega

/-- A store of the next value into row block `r`. -/
theorem outIs_store (c : Dev nD) (P : Fin 4 → Option Nat) (r : Fin 4) (k : Nat) (g : Buf (Elt F) ((c : Thread nD τ).loc cc0_stg4_0))
    (hg : ∀ r k, P r = some k → oblk r g = acc m c k r) (w : Vec F S1024x2048 .f32) (hw : w = acc m c k r) :
    ∀ r' k', Function.update P r (some k) r' = some k' → oblk r' ((oM.access (oRect r)).write (Elt F) g w Finset.univ) = acc m c k' r' := by
  intro r' k' h
  rw [oblk_write]
  by_cases e : r' = r
  · subst e
    rw [Function.update_self] at h
    injection h with h
    rw [if_pos rfl, hw, h]
  · rw [Function.update_of_ne e] at h
    rw [if_neg e]
    exact hg r' k' h

/-! ## One row block -/

/-- The device's own block of x at share `q`, its block of w. -/
def xAt (q : PosShare TreeShare) (c : Dev nD) : sProp 𝕄 := ((c : Thread nD τ).loc cc0_stg0_0) ↦{q} xIn m c
def wAt (q : PosShare TreeShare) (c : Dev nD) : sProp 𝕄 := ((c : Thread nD τ).loc cc0_stg1_0) ↦{q} wIn m c
/-- Half `f` of slot `h` of x from the left at share `q`, and so on. -/
def cxAt (q : PosShare TreeShare) (c : Dev nD) (h : Fin 9) (f : Fin 2) : sProp 𝕄 := ((c : Thread nD τ).loc cc0_scratch0) ↦[(cxRect h f).set]{q} cxAll m c
def cwAt (q : PosShare TreeShare) (c : Dev nD) (h : Fin 9) : sProp 𝕄 := ((c : Thread nD τ).loc cc0_scratch1) ↦[(cwRect h).set]{q} cwAll m c
def kxAt (q : PosShare TreeShare) (c : Dev nD) (h : Fin 8) (f : Fin 2) : sProp 𝕄 := ((c : Thread nD τ).loc cc0_scratch2) ↦[(kxRect h f).set]{q} kxAll m c
def kwAt (q : PosShare TreeShare) (c : Dev nD) (h : Fin 8) : sProp 𝕄 := ((c : Thread nD τ).loc cc0_scratch3) ↦[(kwRect h).set]{q} kwAll m c

/-- A row block of a right-going slot lies in the half of the slot that holds it. -/
theorem cxr_sub (h : Fin 9) (f : Fin 2) (r : Fin 4) (hr : r.val / 2 = f.val) : (cxM.access (cxrRect h r)).set ⊆ (cxRect h f).set := by
  intro i hi
  rw [View.set_slice_whole, Rect.mem_set_unit] at hi
  rw [Rect.mem_set_unit]
  have h0 : h.val ≤ (i 0).val ∧ (i 0).val < h.val + 1 := hi 0
  have h1 : 1024 * r.val ≤ (i 1).val ∧ (i 1).val < 1024 * r.val + 1024 := hi 1
  have h2 : 0 ≤ (i 2).val ∧ (i 2).val < 0 + 256 := hi 2
  intro a
  match a with
  | ⟨0, _⟩ => exact h0
  | ⟨1, _⟩ => show 2048 * f.val ≤ (i 1).val ∧ (i 1).val < 2048 * f.val + 2048; omega
  | ⟨2, _⟩ => exact h2
/-- A row block of a left-going slot lies in the half of the slot that holds it. -/
theorem kxr_sub (h : Fin 8) (f : Fin 2) (r : Fin 4) (hr : r.val / 2 = f.val) : (kxM.access (kxrRect h r)).set ⊆ (kxRect h f).set := by
  intro i hi
  rw [View.set_slice_whole, Rect.mem_set_unit] at hi
  rw [Rect.mem_set_unit]
  have h0 : h.val ≤ (i 0).val ∧ (i 0).val < h.val + 1 := hi 0
  have h1 : 1024 * r.val ≤ (i 1).val ∧ (i 1).val < 1024 * r.val + 1024 := hi 1
  have h2 : 0 ≤ (i 2).val ∧ (i 2).val < 0 + 256 := hi 2
  intro a
  match a with
  | ⟨0, _⟩ => exact h0
  | ⟨1, _⟩ => show 2048 * f.val ≤ (i 1).val ∧ (i 1).val < 2048 * f.val + 2048; omega
  | ⟨2, _⟩ => exact h2

/-- The own product's row block `r`. -/
theorem firstBlk_spec (c : Dev nD) (q q' : PosShare TreeShare) (P : Fin 4 → Option Nat) (r : Fin 4) {α : Type} (k : PUnit → Bd F α) (Q : α → sProp 𝕄) :
    iprop(xAt m q c ∗ wAt m q' c ∗ outIs m c P)
      ⊢ iprop(((xAt m q c ∗ wAt m q' c ∗ outIs m c (Function.update P r (some 0))) -∗ wp frame (wpE (defs₀ (F := F)) 𝒱₀ (c : Thread nD τ) none) Set.univ (k ⟨⟩) Q)
          -∗ wp frame (wpE (defs₀ (F := F)) 𝒱₀ (c : Thread nD τ) none) Set.univ (firstBlk r >>= k) Q) := by
  unfold firstBlk xAt wAt outIs
  simp only [Prog.lift, Prog.bind_op, Prog.bind_ret]
  iintro ⟨Hx, Hw, %g, %hg, Ho⟩ Hk
  iapply (wp_load_rect 𝒱₀ (c : Thread nD τ) none Set.univ (m := xM) (r := xrRect r) (Finset.subset_univ _)) $$ Hx; iintro Hx
  iapply (wp_load_rect 𝒱₀ (c : Thread nD τ) none Set.univ (m := wM) (r := wRect) (Finset.subset_univ _)) $$ Hw; iintro Hw
  iapply (wp_load_rect 𝒱₀ (c : Thread nD τ) none Set.univ (m := oM) (r := oRect r) (Finset.subset_univ _)) $$ Ho; iintro Ho
  iapply (wp_store 𝒱₀ (c : Thread nD τ) none Set.univ (m := oM) (r := oRect r) (Mk := Finset.univ) (Finset.subset_univ _)) $$ Ho; iintro Ho
  iapply Hk
  isplitl [Hx]; · iexact Hx
  isplitl [Hw]; · iexact Hw
  iexists _
  isplitr
  · ipureintro; exact outIs_store m c P r 0 g hg _ rfl
  iexact Ho

/-- A later hop's row block `r`. -/
theorem midBlk_spec (c : Dev nD) (q q' : PosShare TreeShare) (h : Fin 8) (n : Nat) (hn : h.val = n + 1) (f : Fin 2) (P : Fin 4 → Option Nat) (r : Fin 4)
    (hr : r.val / 2 = f.val) (hP : P r = some n) {α : Type} (k : PUnit → Bd F α) (Q : α → sProp 𝕄) :
    iprop(cxAt m q c h.castSucc f ∗ kxAt m q' c h f ∗ outIs m c P)
      ⊢ iprop(((cxAt m q c h.castSucc f ∗ kxAt m q' c h f ∗ outIs m c (Function.update P r (some (n + 1)))) -∗ wp frame (wpE (defs₀ (F := F)) 𝒱₀ (c : Thread nD τ) none) Set.univ (k ⟨⟩) Q)
          -∗ wp frame (wpE (defs₀ (F := F)) 𝒱₀ (c : Thread nD τ) none) Set.univ (midBlk h (cwB m c h.castSucc) (kwB m c h) r >>= k) Q) := by
  unfold midBlk cxAt kxAt outIs
  simp only [Prog.lift, Prog.bind_op, Prog.bind_ret]
  iintro ⟨Hx, Hw, %g, %hg, Ho⟩ Hk
  iapply (wp_load_rect 𝒱₀ (c : Thread nD τ) none Set.univ (m := cxM) (r := cxrRect h.castSucc r) (cxr_sub _ f r hr)) $$ Hx; iintro Hx
  iapply (wp_load_rect 𝒱₀ (c : Thread nD τ) none Set.univ (m := kxM) (r := kxrRect h r) (kxr_sub _ f r hr)) $$ Hw; iintro Hw
  iapply (wp_load_rect 𝒱₀ (c : Thread nD τ) none Set.univ (m := oM) (r := oRect r) (Finset.subset_univ _)) $$ Ho; iintro Ho
  iapply (wp_load_rect 𝒱₀ (c : Thread nD τ) none Set.univ (m := oM) (r := oRect r) (Finset.subset_univ _)) $$ Ho; iintro Ho
  iapply (wp_store 𝒱₀ (c : Thread nD τ) none Set.univ (m := oM) (r := oRect r) (Mk := Finset.univ) (Finset.subset_univ _)) $$ Ho; iintro Ho
  iapply Hk
  isplitl [Hx]; · iexact Hx
  isplitl [Hw]; · iexact Hw
  iexists ((oM.access (oRect r)).write (Elt F) g (k0_pay7 (cwB m c h.castSucc) (kwB m c h) (cxB m c h.castSucc r) (kxB m c h r) (oblk r g)) Finset.univ)
  isplitr
  · ipureintro
    refine outIs_store m c P r (n + 1) g hg _ ?_
    rw [acc_mid m c h n hn, ← hg r n hP]
  iexact Ho

/-- The last hop's row block `r`, with the activation. -/
theorem lastBlk_spec (c : Dev nD) (q q' : PosShare TreeShare) (f : Fin 2) (P : Fin 4 → Option Nat) (r : Fin 4)
    (hr : r.val / 2 = f.val) (hP : P r = some 7) {α : Type} (k : PUnit → Bd F α) (Q : α → sProp 𝕄) :
    iprop(cxAt m q c 8 f ∗ cwAt m q' c 8 ∗ outIs m c P)
      ⊢ iprop(((cxAt m q c 8 f ∗ cwAt m q' c 8 ∗ outIs m c (Function.update P r (some 8))) -∗ wp frame (wpE (defs₀ (F := F)) 𝒱₀ (c : Thread nD τ) none) Set.univ (k ⟨⟩) Q)
          -∗ wp frame (wpE (defs₀ (F := F)) 𝒱₀ (c : Thread nD τ) none) Set.univ (lastBlk (scl m c) r >>= k) Q) := by
  unfold lastBlk cxAt cwAt outIs
  simp only [Prog.lift, Prog.bind_op, Prog.bind_ret]
  iintro ⟨Hx, Hw, %g, %hg, Ho⟩ Hk
  iapply (wp_load_rect 𝒱₀ (c : Thread nD τ) none Set.univ (m := oM) (r := oRect r) (Finset.subset_univ _)) $$ Ho; iintro Ho
  iapply (wp_load_rect 𝒱₀ (c : Thread nD τ) none Set.univ (m := cxM) (r := cxrRect 8 r) (cxr_sub _ f r hr)) $$ Hx; iintro Hx
  iapply (wp_load_rect 𝒱₀ (c : Thread nD τ) none Set.univ (m := cwM) (r := cwRect 8) (by rw [View.set_slice_whole])) $$ Hw; iintro Hw
  iapply (wp_load_rect 𝒱₀ (c : Thread nD τ) none Set.univ (m := oM) (r := oRect r) (Finset.subset_univ _)) $$ Ho; iintro Ho
  iapply (wp_store 𝒱₀ (c : Thread nD τ) none Set.univ (m := oM) (r := oRect r) (Mk := Finset.univ) (Finset.subset_univ _)) $$ Ho; iintro Ho
  iapply Hk
  isplitl [Hx]; · iexact Hx
  isplitl [Hw]; · iexact Hw
  iexists ((oM.access (oRect r)).write (Elt F) g (k0_pay50 (scl m c) (oblk r g) (cxB m c 8 r) (cwB m c 8)) Finset.univ)
  isplitr
  · ipureintro
    refine outIs_store m c P r 8 g hg _ ?_
    rw [acc_last m c, ← hg r 7 hP]
  iexact Ho

/-- The value of every row block. -/
def all (k : Nat) : Fin 4 → Option Nat := fun _ => some k

/-- All four row blocks of a later hop. -/
theorem mid_spec (c : Dev nD) (q₁ q₂ q₃ q₄ q₅ q₆ : PosShare TreeShare) (h : Fin 8) (n : Nat) (hn : h.val = n + 1) {α : Type} (k : PUnit → Bd F α) (Q : α → sProp 𝕄) :
    iprop(cwAt m q₁ c h.castSucc ∗ kwAt m q₂ c h ∗ cxAt m q₃ c h.castSucc 0 ∗ kxAt m q₄ c h 0 ∗ cxAt m q₅ c h.castSucc 1 ∗ kxAt m q₆ c h 1 ∗ outIs m c (all n))
      ⊢ iprop(((cwAt m q₁ c h.castSucc ∗ kwAt m q₂ c h ∗ cxAt m q₃ c h.castSucc 0 ∗ kxAt m q₄ c h 0 ∗ cxAt m q₅ c h.castSucc 1 ∗ kxAt m q₆ c h 1 ∗ outIs m c (all (n + 1)))
            -∗ wp frame (wpE (defs₀ (F := F)) 𝒱₀ (c : Thread nD τ) none) Set.univ (k ⟨⟩) Q)
          -∗ wp frame (wpE (defs₀ (F := F)) 𝒱₀ (c : Thread nD τ) none) Set.univ (mid h >>= k) Q) := by
  have e : Function.update (Function.update (Function.update (Function.update (all n) 0 (some (n + 1))) 1 (some (n + 1))) 2 (some (n + 1))) 3 (some (n + 1)) = all (n + 1) := by
    funext r; fin_cases r <;> rfl
  unfold mid
  simp only [Prog.lift, Prog.bind_op, Prog.bind_ret, bind_assoc]
  iintro ⟨Ha, Hb, Hx0, Hy0, Hx1, Hy1, Ho⟩ Hk
  unfold cwAt kwAt
  iapply (wp_load_rect 𝒱₀ (c : Thread nD τ) none Set.univ (m := cwM) (r := cwRect h.castSucc) (by rw [View.set_slice_whole])) $$ Ha; iintro Ha
  iapply (wp_load_rect 𝒱₀ (c : Thread nD τ) none Set.univ (m := kwM) (r := kwRect h) (by rw [View.set_slice_whole])) $$ Hb; iintro Hb
  iapply (midBlk_spec m c q₃ q₄ h n hn 0 (all n) 0 rfl rfl) $$ [Hx0 Hy0 Ho]
  · isplitl [Hx0]; · iexact Hx0
    isplitl [Hy0]; · iexact Hy0
    iexact Ho
  iintro ⟨Hx0, Hy0, Ho⟩
  iapply (midBlk_spec m c q₃ q₄ h n hn 0
    (Function.update (all n) 0 (some (n + 1))) 1 rfl rfl) $$ [Hx0 Hy0 Ho]
  · isplitl [Hx0]; · iexact Hx0
    isplitl [Hy0]; · iexact Hy0
    iexact Ho
  iintro ⟨Hx0, Hy0, Ho⟩
  iapply (midBlk_spec m c q₅ q₆ h n hn 1
    (Function.update (Function.update (all n) 0 (some (n + 1))) 1 (some (n + 1))) 2 rfl rfl) $$ [Hx1 Hy1 Ho]
  · isplitl [Hx1]; · iexact Hx1
    isplitl [Hy1]; · iexact Hy1
    iexact Ho
  iintro ⟨Hx1, Hy1, Ho⟩
  iapply (midBlk_spec m c q₅ q₆ h n hn 1
    (Function.update (Function.update (Function.update (all n) 0 (some (n + 1))) 1 (some (n + 1))) 2 (some (n + 1))) 3 rfl rfl) $$ [Hx1 Hy1 Ho]
  · isplitl [Hx1]; · iexact Hx1
    isplitl [Hy1]; · iexact Hy1
    iexact Ho
  iintro ⟨Hx1, Hy1, Ho⟩
  rw [e]
  iapply Hk
  isplitl [Ha]; · iexact Ha
  isplitl [Hb]; · iexact Hb
  isplitl [Hx0]; · iexact Hx0
  isplitl [Hy0]; · iexact Hy0
  isplitl [Hx1]; · iexact Hx1
  isplitl [Hy1]; · iexact Hy1
  iexact Ho

end Cert.KernelIdeal.RingGemm

end
-- ==== Proof.Hops.lean ====
module

public import proofs.«01_k».proof.Proof.Blocks

/-! # The hops

What each part of the body takes and gives: the handshake with the neighbours, the first
hop's starts, a hop in the middle, the seventh and the eighth. -/

@[expose] public section

noncomputable section

namespace Cert.KernelIdeal.RingGemm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Option (Bool × T) → ℕ)

/-! ## Sources and slots, by the buffer they lie in -/

section Places
variable (q : PosShare TreeShare) (c : Dev nD)

/-- The elements of a right-going half of x. -/
theorem cxS_set (h : Fin 9) (f : Fin 2) : (cxS h f).view.set = (cxRect h f).set :=
  (View.set_reshape (cxM.view.slice (cxRect h f)) _).trans (View.set_slice_whole _ _)
/-- The elements of a right-going block of w. -/
theorem cwS_set (h : Fin 9) : (cwS h).view.set = (cwRect h).set :=
  (View.set_reshape (cwM.view.slice (cwRect h)) _).trans (View.set_slice_whole _ _)
/-- The elements of a left-going half of x. -/
theorem kxS_set (h : Fin 8) (f : Fin 2) : (kxS h f).view.set = (kxRect h f).set :=
  (View.set_reshape (kxM.view.slice (kxRect h f)) _).trans (View.set_slice_whole _ _)
/-- The elements of a left-going block of w. -/
theorem kwS_set (h : Fin 8) : (kwS h).view.set = (kwRect h).set :=
  (View.set_reshape (kwM.view.slice (kwRect h)) _).trans (View.set_slice_whole _ _)

omit [FloatOps F] in
/-- What lands with a right-going half of x. -/
theorem land_cx (j : Nat) (h : j < 8) (f : Fin 2) : landPts m q c (.cx ⟨j, h⟩ f) = cxAt m q c ⟨j + 1, by omega⟩ f := by
  unfold cxAt
  match j, h with
  | 0, _ => exact congrArg (fun S => (((c : Thread nD τ).loc cc0_scratch0 ↦[S]{q} cxAll m c) : sProp 𝕄)) (cxS_set 1 f)
  | j + 1, h =>
    have e := cxS_set (⟨j + 2, by omega⟩ : Fin 9) f
    exact congrArg (fun S => (((c : Thread nD τ).loc cc0_scratch0 ↦[S]{q} cxAll m c) : sProp 𝕄)) e
omit [FloatOps F] in
/-- What lands with a right-going block of w. -/
theorem land_cw (j : Nat) (h : j < 8) : landPts m q c (.cw ⟨j, h⟩) = cwAt m q c ⟨j + 1, by omega⟩ := by
  unfold cwAt
  match j, h with
  | 0, _ => exact congrArg (fun S => (((c : Thread nD τ).loc cc0_scratch1 ↦[S]{q} cwAll m c) : sProp 𝕄)) (cwS_set 1)
  | j + 1, h =>
    have e := cwS_set (⟨j + 2, by omega⟩ : Fin 9)
    exact congrArg (fun S => (((c : Thread nD τ).loc cc0_scratch1 ↦[S]{q} cwAll m c) : sProp 𝕄)) e
omit [FloatOps F] in
/-- What lands with a left-going half of x. -/
theorem land_kx (j : Nat) (h : j < 7) (f : Fin 2) : landPts m q c (.kx ⟨j, h⟩ f) = kxAt m q c ⟨j + 1, by omega⟩ f := by
  unfold kxAt
  match j, h with
  | 0, _ => exact congrArg (fun S => (((c : Thread nD τ).loc cc0_scratch2 ↦[S]{q} kxAll m c) : sProp 𝕄)) (kxS_set 1 f)
  | j + 1, h =>
    have e := kxS_set (⟨j + 2, by omega⟩ : Fin 8) f
    exact congrArg (fun S => (((c : Thread nD τ).loc cc0_scratch2 ↦[S]{q} kxAll m c) : sProp 𝕄)) e
omit [FloatOps F] in
/-- What lands with a left-going block of w. -/
theorem land_kw (j : Nat) (h : j < 7) : landPts m q c (.kw ⟨j, h⟩) = kwAt m q c ⟨j + 1, by omega⟩ := by
  unfold kwAt
  match j, h with
  | 0, _ => exact congrArg (fun S => (((c : Thread nD τ).loc cc0_scratch3 ↦[S]{q} kwAll m c) : sProp 𝕄)) (kwS_set 1)
  | j + 1, h =>
    have e := kwS_set (⟨j + 2, by omega⟩ : Fin 8)
    exact congrArg (fun S => (((c : Thread nD τ).loc cc0_scratch3 ↦[S]{q} kwAll m c) : sProp 𝕄)) e

omit [FloatOps F] in
/-- What a hop passes on is the slot the hop before filled. -/
theorem src_cx (j : Nat) (h : j + 1 < 8) (f : Fin 2) : srcPts m c (.cx ⟨j + 1, h⟩ f) = landPts m fullShare.left c (.cx ⟨j, by omega⟩ f) := by
  match j, h with
  | 0, _ => rfl
  | _ + 1, _ => rfl
omit [FloatOps F] in
/-- A later right-going copy of w sends half the share of what the hop before brought. -/
theorem src_cw (j : Nat) (h : j + 1 < 8) : srcPts m c (.cw ⟨j + 1, h⟩) = landPts m fullShare.left c (.cw ⟨j, by omega⟩) := by
  match j, h with
  | 0, _ => rfl
  | _ + 1, _ => rfl
omit [FloatOps F] in
/-- A later left-going copy of a half of x sends half the share of what the hop before brought. -/
theorem src_kx (j : Nat) (h : j + 1 < 7) (f : Fin 2) : srcPts m c (.kx ⟨j + 1, h⟩ f) = landPts m fullShare.left c (.kx ⟨j, by omega⟩ f) := by
  match j, h with
  | 0, _ => rfl
  | _ + 1, _ => rfl
omit [FloatOps F] in
/-- A later left-going copy of w sends half the share of what the hop before brought. -/
theorem src_kw (j : Nat) (h : j + 1 < 7) : srcPts m c (.kw ⟨j + 1, h⟩) = landPts m fullShare.left c (.kw ⟨j, by omega⟩) := by
  match j, h with
  | 0, _ => rfl
  | _ + 1, _ => rfl

omit [FloatOps F] in
/-- A filled slot is two halves: one to pass on, one to multiply. -/
theorem land_half (t : T) : (landPts m fullShare c t : sProp 𝕄) = iprop(landPts m fullShare.left c t ∗ landPts m fullShare.right c t) := by
  unfold landPts
  have h := pointsTo_share (Ix := Unit) (Name := ℕ) (U := UU) (Lvl := ℕ) (ℓ := (leg t).dst.view.loc (c : Thread nD τ)) (I := (leg t).dst.view.set) (f := dstAll m c t)
    (PosShare.mem_left_op_right fullShare)
  exact equiv_iff.mp ⟨h.1, h.2⟩

end Places

/-! ## Chains over the transfers of a hop -/

omit [FloatOps F] in
/-- A family of pairs over a list is a pair of families. -/
theorem list_sep (l : List T) (Φ Ψ : T → sProp 𝕄) : bigSepL l (fun t => iprop(Φ t ∗ Ψ t)) = iprop(bigSepL l Φ ∗ bigSepL l Ψ) := by
  induction l with
  | nil => exact (equiv_iff.mp emp_sep).symm
  | cons t l ih =>
    rw [bigSepL_cons', bigSepL_cons', bigSepL_cons', ih]
    have h := sep_sep_sep_comm (P := Φ t) (Q := Ψ t) (R := bigSepL l Φ) (S := bigSepL l Ψ)
    exact equiv_iff.mp ⟨h.1, h.2⟩

omit [FloatOps F] in
/-- The family over the six transfers of a hop, written out. -/
theorem six_sep (j : Nat) (h : j < 7) (Φ : T → sProp 𝕄) : bigSepL (six ⟨j, h⟩) Φ
    = iprop(Φ (.cw ⟨j, by omega⟩) ∗ Φ (.kw ⟨j, h⟩) ∗ Φ (.cx ⟨j, by omega⟩ 0) ∗ Φ (.kx ⟨j, h⟩ 0) ∗ Φ (.cx ⟨j, by omega⟩ 1) ∗ Φ (.kx ⟨j, h⟩ 1)) := rfl

/-! ## One transfer after the other -/

/-- What a device needs to take transfer `t` in, -/
def ready (c : Dev nD) (t : T) : sProp 𝕄 := iprop(waitTok c t ∗ fly c t)
/-- to start it; -/
def next (c : Dev nD) (t : T) : sProp 𝕄 := iprop(sendTok c t ∗ free (peer c t) t)
/-- and what is left when it is over: the source, half of the slot, the counts at zero. -/
def got (c : Dev nD) (t : T) : sProp 𝕄 := iprop(srcPts m c t ∗ landPts m fullShare.right c t ∗ shut c t)

/-- Taking a transfer in, the slot in halves. -/
theorem take_spec (c : Dev nD) (t : T) (ts : List T) (hts : ∀ t' ∈ ts, hopOf t < hopOf t') (W : Waits sig Unit)
    {α : Type} (k : PUnit → Bd F α) (Q : α → sProp 𝕄) :
    iprop(records m K ∗ levAts L lv ∗ ready c t ∗ owes (c : Thread nD τ) (owedL c ts) W)
      ⊢ iprop(((got m c t ∗ landPts m fullShare.left c t ∗ ∃ W', owes (c : Thread nD τ) (owedL c ts) W')
            -∗ wp frame (wpE (defs₀ (F := F)) 𝒱₀ (c : Thread nD τ) none) Set.univ (k ⟨⟩) Q)
          -∗ wp frame (wpE (defs₀ (F := F)) 𝒱₀ (c : Thread nD τ) none) Set.univ (await t >>= k) Q) := by
  unfold ready got
  iintro ⟨#HR, #Hl, ⟨Hw, Hf⟩, HO⟩ Hk
  iapply (await_spec m K c t ts hts W k Q) $$ [Hw Hf HO]
  · isplitr; · iexact HR
    isplitr; · iexact Hl
    isplitl [Hw]; · iexact Hw
    isplitl [Hf]; · iexact Hf
    iexact HO
  iintro ⟨Hs, Hd, Hz, HO⟩
  ihave Hd2 := (Entails.of_eq (land_half m c t)) $$ Hd
  icases Hd2 with ⟨HdL, HdR⟩
  iapply Hk
  isplitl [Hs HdR Hz]
  · isplitl [Hs]; · iexact Hs
    isplitl [HdR]; · iexact HdR
    iexact Hz
  isplitl [HdL]; · iexact HdL
  iexact HO

/-- Taking transfer `t` in and passing on what it brought as `t'`. -/
theorem pass_spec (c : Dev nD) (t t' : T) (ts : List T) (hl : srcPts m c t' = landPts m fullShare.left c t) (hts : ∀ u ∈ t' :: ts, hopOf t < hopOf u)
    (W : Waits sig Unit) {α : Type} (k : PUnit → Bd F α) (Q : α → sProp 𝕄) :
    iprop(records m K ∗ levAts L lv ∗ ready c t ∗ next c t' ∗ owes (c : Thread nD τ) (owedL c (t' :: ts)) W)
      ⊢ iprop(((got m c t ∗ fly c t' ∗ ∃ W', owes (c : Thread nD τ) (owedL c ts) W')
            -∗ wp frame (wpE (defs₀ (F := F)) 𝒱₀ (c : Thread nD τ) none) Set.univ (k ⟨⟩) Q)
          -∗ wp frame (wpE (defs₀ (F := F)) 𝒱₀ (c : Thread nD τ) none) Set.univ (pass c t t' >>= k) Q) := by
  unfold pass next
  rw [bind_assoc]
  iintro ⟨#HR, #Hl, Hr, ⟨Ht, Hf⟩, HO⟩ Hk
  iapply (take_spec m K c t (t' :: ts) hts W _ Q) $$ [Hr HO]
  · isplitr; · iexact HR
    isplitr; · iexact Hl
    isplitl [Hr]; · iexact Hr
    iexact HO
  iintro ⟨Hg, Hd, %W', HO⟩
  iapply (send_spec m K c t' ts W' k Q) $$ [Hd Ht Hf HO]
  · isplitr; · iexact HR
    isplitl [Hd]; · rw [hl]; iexact Hd
    isplitl [Hf]; · iexact Hf
    isplitl [Ht]; · iexact Ht
    iexact HO
  iintro ⟨Hy, HO⟩
  iapply Hk
  isplitl [Hg]; · iexact Hg
  isplitl [Hy]; · iexact Hy
  iexists _; iexact HO

/-! ## The handshake -/

omit [FloatOps F] in
/-- A device's slots, by the side they are filled from, as the neighbours' barriers hand them out. -/
theorem free_split (c : Dev nD) : (bigSep Finset.univ fun t => free (F := F) c t) = iprop(barPay (lf c) true ∗ barPay (F := F) (rt c) false) := by
  unfold barPay
  rw [bigSep_filter_split (Φ := fun t => free (F := F) c t) Finset.univ (fun t => goesR t = true)]
  have hf : (Finset.univ.filter fun t => ¬goesR t = true) = Finset.univ.filter fun t => goesR t = false :=
    Finset.filter_congr fun t _ => by rw [Bool.not_eq_true]
  rw [hf]
  have h1 : (bigSep (Finset.univ.filter fun t => goesR t = true) fun t => free (F := F) c t) = bigSep (Finset.univ.filter fun t => goesR t = true) fun t => free (F := F) (peer (lf c) t) t :=
    bigSep_congr fun t ht => by rw [peer_R (Finset.mem_filter.mp ht).2, rt_lf]
  have h2 : (bigSep (Finset.univ.filter fun t => goesR t = false) fun t => free (F := F) c t) = bigSep (Finset.univ.filter fun t => goesR t = false) fun t => free (F := F) (peer (rt c) t) t :=
    bigSep_congr fun t ht => by rw [peer_L (Finset.mem_filter.mp ht).2, lf_rt]
  rw [h1, h2]
  rfl

/-- The handshake: each neighbour is handed the slots it fills, and hands over those this device fills. -/
theorem hello_spec (c : Dev nD) (W : Waits sig Unit) {α : Type} (k : PUnit → Bd F α) (Q : α → sProp 𝕄) :
    iprop(records m K ∗ levAts L lv ∗ atPos ER (barC c) 0 ∅ 0 ∗ cred (tallyAt (barC c) () 2) ∗ dutyTok ER (barC (lf c)) 0 true ∗ dutyTok ER (barC (rt c)) 0 false
        ∗ (bigSep Finset.univ fun t => free (F := F) c t) ∗ owes (c : Thread nD τ) (O₀ c) W)
      ⊢ iprop((((bigSep Finset.univ fun t => free (F := F) (peer c t) t) ∗ semVal (barC c) 0 ∗ ∃ W', owes (c : Thread nD τ) (owedL c (later 8)) W')
            -∗ wp frame (wpE (defs₀ (F := F)) 𝒱₀ (c : Thread nD τ) none) Set.univ (k ⟨⟩) Q)
          -∗ wp frame (wpE (defs₀ (F := F)) 𝒱₀ (c : Thread nD τ) none) Set.univ (hello c >>= k) Q) := by
  unfold hello
  simp only [semSignalWord, semWaitWord, Prog.lift, Prog.bind_op, Prog.bind_ret, Prog.pure_eq_ret, dev1_eq, dev2_eq]
  rw [free_split]
  iintro ⟨#HR, #Hl, Ha, Hc, Ht1, Ht2, ⟨Hf1, Hf2⟩, HO⟩ Hk
  unfold O₀
  iapply (Rounds.wp_signal 𝒱₀ ER (Rd m) (c : Thread nD τ) none (dst := (lf c : Thread nD τ)) (κ := K (lf c, none))
      (d := true) (by rw [duties_bar]; exact Finset.mem_univ _) ((amount_bar m (lf c) true).trans (by decide)) () (O₁ c) rfl) $$ [HO Ht1 Hf1]
  · isplitr; · iapply (inv_at m K (lf c, none)); iexact HR
    isplitl [HO]; · iexact HO
    isplitl [Ht1]; · iexact Ht1
    isplitl [Hf1]; · rw [payload_bar]; iexact Hf1
    iapply (reached_at m K (lf c, none)); iexact HR
  iintro HO
  unfold O₁
  iapply (Rounds.wp_signal 𝒱₀ ER (Rd m) (c : Thread nD τ) none (dst := (rt c : Thread nD τ)) (κ := K (rt c, none))
      (d := false) (by rw [duties_bar]; exact Finset.mem_univ _) ((amount_bar m (rt c) false).trans (by decide)) () (owedL c (later 8)) rfl) $$ [HO Ht2 Hf2]
  · isplitr; · iapply (inv_at m K (rt c, none)); iexact HR
    isplitl [HO]; · iexact HO
    isplitl [Ht2]; · iexact Ht2
    isplitl [Hf2]; · rw [payload_bar]; iexact Hf2
    iapply (reached_at m K (rt c, none)); iexact HR
  iintro HO
  iapply (Rounds.wp_wait_rest_token 𝒱₀ ER (Rd m) (c : Thread nD τ) none (κ := K (c, none))
      (wpE_semWait_eq 𝒱₀ (c : Thread nD τ) none Set.univ) (Set.mem_univ _) () (O := owedL c (later 8)) (W := W) (R := 0) (m := 0) (T := ∅)
      (by rw [expect_bar]; decide)) $$ [Hc HO Ha]
  · isplitr; · iapply (inv_at m K (c, none)); iexact HR
    isplitl [Hc]; · iexact Hc
    isplitl [HO]; · iexact HO
    isplitr; · iapply (mayWait_owed c _ (later 8) (fun t' _ => by rw [lv_bar]; omega)); iexact Hl
    iexact Ha
  iintro ⟨HO, Ha, -, Hpay⟩
  ihave Hp := (Entails.of_eq (rest_bar m c)) $$ Hpay
  imod (Rounds.cell_close ER (Rd m) (Set.mem_univ (K (c, none))) (fun h => h) (R := 0 + 1) (duties_later m (barC c))) $$ [Ha] with Hz
  · isplitr; · iapply (inv_at m K (c, none)); iexact HR
    iexact Ha
  iapply Hk
  isplitl [Hp]; · iexact Hp
  isplitl [Hz]; · iexact Hz
  iexists _; iexact HO

/-! ## The first starts -/

/-- Both neighbours are sent the device's own blocks. -/
theorem start_spec (c : Dev nD) (W : Waits sig Unit) {α : Type} (k : PUnit → Bd F α) (Q : α → sProp 𝕄) :
    iprop(records m K ∗ bigSepL (six 0) (fun t => srcPts m c t) ∗ bigSepL (six 0) (fun t => next (F := F) c t) ∗ owes (c : Thread nD τ) (owedL c (later 8)) W)
      ⊢ iprop(((bigSepL (six 0) (fun t => fly (F := F) c t) ∗ ∃ W', owes (c : Thread nD τ) (owedL c (later 7)) W')
            -∗ wp frame (wpE (defs₀ (F := F)) 𝒱₀ (c : Thread nD τ) none) Set.univ (k ⟨⟩) Q)
          -∗ wp frame (wpE (defs₀ (F := F)) 𝒱₀ (c : Thread nD τ) none) Set.univ (start c >>= k) Q) := by
  unfold start
  have hL : later 8 = .cw 0 :: .kw 0 :: .cx 0 0 :: .kx 0 0 :: .cx 0 1 :: .kx 0 1 :: later 7 := rfl
  rw [hL, show (0 : Fin 7) = ⟨0, by omega⟩ from rfl, six_sep, six_sep, six_sep]
  simp only [bind_assoc]
  unfold next
  iintro ⟨#HR, ⟨S0, S1, S2, S3, S4, S5⟩, ⟨⟨T0, F0⟩, ⟨T1, F1⟩, ⟨T2, F2⟩, ⟨T3, F3⟩, ⟨T4, F4⟩, ⟨T5, F5⟩⟩, HO⟩ Hk
  iapply (send_spec m K c _ _ W _ Q) $$ [S0 T0 F0 HO]
  · isplitr; · iexact HR
    isplitl [S0]; · iexact S0
    isplitl [F0]; · iexact F0
    isplitl [T0]; · iexact T0
    iexact HO
  iintro ⟨Y0, HO⟩
  iapply (send_spec m K c _ _ W _ Q) $$ [S1 T1 F1 HO]
  · isplitr; · iexact HR
    isplitl [S1]; · iexact S1
    isplitl [F1]; · iexact F1
    isplitl [T1]; · iexact T1
    iexact HO
  iintro ⟨Y1, HO⟩
  iapply (send_spec m K c _ _ W _ Q) $$ [S2 T2 F2 HO]
  · isplitr; · iexact HR
    isplitl [S2]; · iexact S2
    isplitl [F2]; · iexact F2
    isplitl [T2]; · iexact T2
    iexact HO
  iintro ⟨Y2, HO⟩
  iapply (send_spec m K c _ _ W _ Q) $$ [S3 T3 F3 HO]
  · isplitr; · iexact HR
    isplitl [S3]; · iexact S3
    isplitl [F3]; · iexact F3
    isplitl [T3]; · iexact T3
    iexact HO
  iintro ⟨Y3, HO⟩
  iapply (send_spec m K c _ _ W _ Q) $$ [S4 T4 F4 HO]
  · isplitr; · iexact HR
    isplitl [S4]; · iexact S4
    isplitl [F4]; · iexact F4
    isplitl [T4]; · iexact T4
    iexact HO
  iintro ⟨Y4, HO⟩
  iapply (send_spec m K c _ _ W _ Q) $$ [S5 T5 F5 HO]
  · isplitr; · iexact HR
    isplitl [S5]; · iexact S5
    isplitl [F5]; · iexact F5
    isplitl [T5]; · iexact T5
    iexact HO
  iintro ⟨Y5, HO⟩
  iapply Hk
  isplitl [Y0 Y1 Y2 Y3 Y4 Y5]
  · isplitl [Y0]; · iexact Y0
    isplitl [Y1]; · iexact Y1
    isplitl [Y2]; · iexact Y2
    isplitl [Y3]; · iexact Y3
    isplitl [Y4]; · iexact Y4
    iexact Y5
  iexists _; iexact HO

/-! ## A hop in the middle -/

/-- All that is started after hop `j` lies in later hops. -/
theorem after_hop (j : Fin 6) : ∀ t ∈ six j.succ ++ later (6 - j.val), j.val < hopOf t := by
  revert j; decide

/-- The right halves of the six slots a hop filled, as the product reads them. -/
def halves (c : Dev nD) (j : Nat) (h : j < 7) : sProp 𝕄 :=
  iprop(cwAt m fullShare.right c ⟨j + 1, by omega⟩ ∗ kwAt m fullShare.right c ⟨j + 1, by omega⟩ ∗ cxAt m fullShare.right c ⟨j + 1, by omega⟩ 0
    ∗ kxAt m fullShare.right c ⟨j + 1, by omega⟩ 0 ∗ cxAt m fullShare.right c ⟨j + 1, by omega⟩ 1 ∗ kxAt m fullShare.right c ⟨j + 1, by omega⟩ 1)

/-- What the six transfers of a hop left: the sources, the halves of the slots and the counts. -/
theorem got_halves (c : Dev nD) (j : Nat) (h : j < 7) :
    (bigSepL (six ⟨j, h⟩) (fun t => got m c t) : sProp 𝕄)
      = iprop(bigSepL (six ⟨j, h⟩) (fun t => srcPts m c t) ∗ halves m c j h ∗ bigSepL (six ⟨j, h⟩) fun t => shut (F := F) c t) := by
  unfold got halves
  rw [list_sep, list_sep, six_sep j h (fun t => landPts m fullShare.right c t), land_cw, land_kw, land_cx, land_kx, land_cx, land_kx]

/-- Adding a hop's slots into the result reads their halves and leaves all as it was. -/
theorem add_spec (c : Dev nD) (j : Nat) (h : j < 7) {α : Type} (k : PUnit → Bd F α) (Q : α → sProp 𝕄) :
    iprop(bigSepL (six ⟨j, h⟩) (fun t => got m c t) ∗ outIs m c (all j))
      ⊢ iprop(((bigSepL (six ⟨j, h⟩) (fun t => got m c t) ∗ outIs m c (all (j + 1)))
            -∗ wp frame (wpE (defs₀ (F := F)) 𝒱₀ (c : Thread nD τ) none) Set.univ (k ⟨⟩) Q)
          -∗ wp frame (wpE (defs₀ (F := F)) 𝒱₀ (c : Thread nD τ) none) Set.univ (mid ⟨j + 1, by omega⟩ >>= k) Q) := by
  rw [got_halves]
  unfold halves
  iintro ⟨⟨HS, ⟨B0, B1, B2, B3, B4, B5⟩, HZ⟩, Ho⟩ Hk
  iapply (mid_spec m c _ _ _ _ _ _ ⟨j + 1, _⟩ j rfl k Q) $$ [B0 B1 B2 B3 B4 B5 Ho]
  · isplitl [B0]; · iexact B0
    isplitl [B1]; · iexact B1
    isplitl [B2]; · iexact B2
    isplitl [B3]; · iexact B3
    isplitl [B4]; · iexact B4
    isplitl [B5]; · iexact B5
    iexact Ho
  iintro ⟨B0, B1, B2, B3, B4, B5, Ho⟩
  iapply Hk
  isplitl [B0 B1 B2 B3 B4 B5 HS HZ]
  · isplitl [HS]; · iexact HS
    isplitl [B0 B1 B2 B3 B4 B5]
    · isplitl [B0]; · iexact B0
      isplitl [B1]; · iexact B1
      isplitl [B2]; · iexact B2
      isplitl [B3]; · iexact B3
      isplitl [B4]; · iexact B4
      iexact B5
    iexact HZ
  iexact Ho

/-- A hop in the middle: what came goes on in both directions and into the result. -/
theorem hop_spec (c : Dev nD) (j : Fin 6) (W : Waits sig Unit) {α : Type} (k : PUnit → Bd F α) (Q : α → sProp 𝕄) :
    iprop(records m K ∗ levAts L lv ∗ bigSepL (six j.castSucc) (fun t => ready (F := F) c t) ∗ bigSepL (six j.succ) (fun t => next (F := F) c t)
        ∗ owes (c : Thread nD τ) (owedL c (six j.succ ++ later (6 - j.val))) W ∗ outIs m c (all j.val))
      ⊢ iprop(((bigSepL (six j.castSucc) (fun t => got m c t) ∗ bigSepL (six j.succ) (fun t => fly (F := F) c t)
              ∗ (∃ W', owes (c : Thread nD τ) (owedL c (later (6 - j.val))) W') ∗ outIs m c (all (j.val + 1)))
            -∗ wp frame (wpE (defs₀ (F := F)) 𝒱₀ (c : Thread nD τ) none) Set.univ (k ⟨⟩) Q)
          -∗ wp frame (wpE (defs₀ (F := F)) 𝒱₀ (c : Thread nD τ) none) Set.univ (hop c j >>= k) Q) := by
  obtain ⟨j, hj⟩ := j
  have H0 := after_hop ⟨j, hj⟩
  have h7 : six (Fin.succ ⟨j, hj⟩) ++ later (6 - j) = .cw ⟨j + 1, by omega⟩ :: .kw ⟨j + 1, by omega⟩ :: .cx ⟨j + 1, by omega⟩ 0 :: .kx ⟨j + 1, by omega⟩ 0
      :: .cx ⟨j + 1, by omega⟩ 1 :: .kx ⟨j + 1, by omega⟩ 1 :: later (6 - j) := rfl
  unfold hop
  dsimp only at H0 ⊢
  rw [h7] at H0 ⊢
  have H1 := (List.forall_mem_cons.mp H0).2
  have H2 := (List.forall_mem_cons.mp H1).2
  have H3 := (List.forall_mem_cons.mp H2).2
  have H4 := (List.forall_mem_cons.mp H3).2
  have H5 := (List.forall_mem_cons.mp H4).2
  rw [show Fin.castSucc (⟨j, hj⟩ : Fin 6) = (⟨j, by omega⟩ : Fin 7) from rfl, show Fin.succ (⟨j, hj⟩ : Fin 6) = (⟨j + 1, by omega⟩ : Fin 7) from rfl]
  rw [six_sep j _ (fun t => ready (F := F) c t), six_sep (j + 1) _ (fun t => next (F := F) c t), six_sep (j + 1) _ (fun t => fly (F := F) c t)]
  simp only [bind_assoc]
  iintro ⟨#HR, #Hl, ⟨R0, R1, R2, R3, R4, R5⟩, ⟨N0, N1, N2, N3, N4, N5⟩, HO, Ho⟩ Hk
  iapply (pass_spec m K c _ _ _ (src_cw m c j _) H0 W _ Q) $$ [R0 N0 HO]
  · isplitr; · iexact HR
    isplitr; · iexact Hl
    isplitl [R0]; · iexact R0
    isplitl [N0]; · iexact N0
    iexact HO
  iintro ⟨G0, Y0, %W0, HO⟩
  iapply (pass_spec m K c _ _ _ (src_kw m c j _) H1 W0 _ Q) $$ [R1 N1 HO]
  · isplitr; · iexact HR
    isplitr; · iexact Hl
    isplitl [R1]; · iexact R1
    isplitl [N1]; · iexact N1
    iexact HO
  iintro ⟨G1, Y1, %W1, HO⟩
  iapply (pass_spec m K c _ _ _ (src_cx m c j _ 0) H2 W1 _ Q) $$ [R2 N2 HO]
  · isplitr; · iexact HR
    isplitr; · iexact Hl
    isplitl [R2]; · iexact R2
    isplitl [N2]; · iexact N2
    iexact HO
  iintro ⟨G2, Y2, %W2, HO⟩
  iapply (pass_spec m K c _ _ _ (src_kx m c j _ 0) H3 W2 _ Q) $$ [R3 N3 HO]
  · isplitr; · iexact HR
    isplitr; · iexact Hl
    isplitl [R3]; · iexact R3
    isplitl [N3]; · iexact N3
    iexact HO
  iintro ⟨G3, Y3, %W3, HO⟩
  iapply (pass_spec m K c _ _ _ (src_cx m c j _ 1) H4 W3 _ Q) $$ [R4 N4 HO]
  · isplitr; · iexact HR
    isplitr; · iexact Hl
    isplitl [R4]; · iexact R4
    isplitl [N4]; · iexact N4
    iexact HO
  iintro ⟨G4, Y4, %W4, HO⟩
  iapply (pass_spec m K c _ _ _ (src_kx m c j _ 1) H5 W4 _ Q) $$ [R5 N5 HO]
  · isplitr; · iexact HR
    isplitr; · iexact Hl
    isplitl [R5]; · iexact R5
    isplitl [N5]; · iexact N5
    iexact HO
  iintro ⟨G5, Y5, %W5, HO⟩
  iapply (add_spec m c j (by omega) k Q) $$ [G0 G1 G2 G3 G4 G5 Ho]
  · isplitl [G0 G1 G2 G3 G4 G5]
    · rw [six_sep j _ (fun t => got m c t)]
      isplitl [G0]; · iexact G0
      isplitl [G1]; · iexact G1
      isplitl [G2]; · iexact G2
      isplitl [G3]; · iexact G3
      isplitl [G4]; · iexact G4
      iexact G5
    iexact Ho
  iintro ⟨HG, Ho⟩
  iapply Hk
  isplitl [HG]; · iexact HG
  isplitl [Y0 Y1 Y2 Y3 Y4 Y5]
  · isplitl [Y0]; · iexact Y0
    isplitl [Y1]; · iexact Y1
    isplitl [Y2]; · iexact Y2
    isplitl [Y3]; · iexact Y3
    isplitl [Y4]; · iexact Y4
    iexact Y5
  isplitl [HO]; · iexists _; iexact HO
  iexact Ho

/-! ## The last two hops -/

/-- All that is started after hop 6 lies in hop 7. -/
theorem after_six : ∀ t ∈ later 1, 6 < hopOf t := by decide

/-- The seventh hop: what came from the left goes on, what came from the right ends here. -/
theorem hop7_spec (c : Dev nD) (W : Waits sig Unit) {α : Type} (k : PUnit → Bd F α) (Q : α → sProp 𝕄) :
    iprop(records m K ∗ levAts L lv ∗ bigSepL (six 6) (fun t => ready (F := F) c t) ∗ bigSepL (later 1) (fun t => next (F := F) c t)
        ∗ owes (c : Thread nD τ) (owedL c (later 1)) W ∗ outIs m c (all 6))
      ⊢ iprop(((bigSepL (six 6) (fun t => got m c t) ∗ bigSepL (later 1) (fun t => fly (F := F) c t)
              ∗ (landPts m fullShare.left c (.kw 6) ∗ landPts m fullShare.left c (.kx 6 0) ∗ landPts m fullShare.left c (.kx 6 1))
              ∗ (∃ W', owes (c : Thread nD τ) (owedL c (later 0)) W') ∗ outIs m c (all 7))
            -∗ wp frame (wpE (defs₀ (F := F)) 𝒱₀ (c : Thread nD τ) none) Set.univ (k ⟨⟩) Q)
          -∗ wp frame (wpE (defs₀ (F := F)) 𝒱₀ (c : Thread nD τ) none) Set.univ (hop7 c >>= k) Q) := by
  have H0 : ∀ t ∈ ([.cw 7, .cx 7 0, .cx 7 1] : List T), 6 < hopOf t := after_six
  have H1 := (List.forall_mem_cons.mp H0).2
  have H2 := (List.forall_mem_cons.mp H1).2
  have H3 := (List.forall_mem_cons.mp H2).2
  unfold hop7
  rw [show later 1 = [.cw 7, .cx 7 0, .cx 7 1] from rfl, show later 0 = [] from rfl, show (6 : Fin 7) = ⟨6, by omega⟩ from rfl,
    six_sep 6 _ (fun t => ready (F := F) c t), bigSepL_cons', bigSepL_cons', bigSepL_singleton, bigSepL_cons', bigSepL_cons', bigSepL_singleton]
  simp only [bind_assoc]
  iintro ⟨#HR, #Hl, ⟨R0, R1, R2, R3, R4, R5⟩, ⟨N0, N2, N4⟩, HO, Ho⟩ Hk
  iapply (pass_spec m K c _ _ _ (src_cw m c 6 _) H0 W _ Q) $$ [R0 N0 HO]
  · isplitr; · iexact HR
    isplitr; · iexact Hl
    isplitl [R0]; · iexact R0
    isplitl [N0]; · iexact N0
    iexact HO
  iintro ⟨G0, Y0, %W0, HO⟩
  iapply (take_spec m K c _ _ H1 W0 _ Q) $$ [R1 HO]
  · isplitr; · iexact HR
    isplitr; · iexact Hl
    isplitl [R1]; · iexact R1
    iexact HO
  iintro ⟨G1, E1, %W1, HO⟩
  iapply (pass_spec m K c _ _ _ (src_cx m c 6 _ 0) H1 W1 _ Q) $$ [R2 N2 HO]
  · isplitr; · iexact HR
    isplitr; · iexact Hl
    isplitl [R2]; · iexact R2
    isplitl [N2]; · iexact N2
    iexact HO
  iintro ⟨G2, Y2, %W2, HO⟩
  iapply (take_spec m K c _ _ H2 W2 _ Q) $$ [R3 HO]
  · isplitr; · iexact HR
    isplitr; · iexact Hl
    isplitl [R3]; · iexact R3
    iexact HO
  iintro ⟨G3, E3, %W3, HO⟩
  iapply (pass_spec m K c _ _ _ (src_cx m c 6 _ 1) H2 W3 _ Q) $$ [R4 N4 HO]
  · isplitr; · iexact HR
    isplitr; · iexact Hl
    isplitl [R4]; · iexact R4
    isplitl [N4]; · iexact N4
    iexact HO
  iintro ⟨G4, Y4, %W4, HO⟩
  iapply (take_spec m K c _ _ H3 W4 _ Q) $$ [R5 HO]
  · isplitr; · iexact HR
    isplitr; · iexact Hl
    isplitl [R5]; · iexact R5
    iexact HO
  iintro ⟨G5, E5, %W5, HO⟩
  iapply (add_spec m c 6 (by omega) k Q) $$ [G0 G1 G2 G3 G4 G5 Ho]
  · isplitl [G0 G1 G2 G3 G4 G5]
    · rw [six_sep 6 _ (fun t => got m c t)]
      isplitl [G0]; · iexact G0
      isplitl [G1]; · iexact G1
      isplitl [G2]; · iexact G2
      isplitl [G3]; · iexact G3
      isplitl [G4]; · iexact G4
      iexact G5
    iexact Ho
  iintro ⟨HG, Ho⟩
  iapply Hk
  isplitl [HG]; · iexact HG
  isplitl [Y0 Y2 Y4]
  · isplitl [Y0]; · iexact Y0
    isplitl [Y2]; · iexact Y2
    iexact Y4
  isplitl [E1 E3 E5]
  · isplitl [E1]; · iexact E1
    isplitl [E3]; · iexact E3
    iexact E5
  isplitl [HO]; · iexists _; iexact HO
  iexact Ho

/-- The scales, read. -/
def scales (c : Dev nD) : sProp 𝕄 :=
  iprop((((c : Thread nD τ).loc cc0_stg2_0) ↦{fullShare} sxIn m c) ∗ (((c : Thread nD τ).loc cc0_stg3_0) ↦{fullShare} swIn m c))

/-- The eighth hop: the last blocks from the left, multiplied half by half, and the activation. -/
theorem hop8_spec (c : Dev nD) (W : Waits sig Unit) {α : Type} (k : PUnit → Bd F α) (Q : α → sProp 𝕄) :
    iprop(records m K ∗ levAts L lv ∗ bigSepL (later 1) (fun t => ready (F := F) c t) ∗ scales m c
        ∗ owes (c : Thread nD τ) (owedL c (later 0)) W ∗ outIs m c (all 7))
      ⊢ iprop(((bigSepL (later 1) (fun t => got m c t)
              ∗ (landPts m fullShare.left c (.cw 7) ∗ landPts m fullShare.left c (.cx 7 0) ∗ landPts m fullShare.left c (.cx 7 1))
              ∗ scales m c ∗ (∃ W', owes (c : Thread nD τ) (owedL c (later 0)) W') ∗ outIs m c (all 8))
            -∗ wp frame (wpE (defs₀ (F := F)) 𝒱₀ (c : Thread nD τ) none) Set.univ (k ⟨⟩) Q)
          -∗ wp frame (wpE (defs₀ (F := F)) 𝒱₀ (c : Thread nD τ) none) Set.univ (hop8 >>= k) Q) := by
  have H0 (t : T) : ∀ t' ∈ later 0, hopOf t < hopOf t' := fun _ h => absurd h (List.not_mem_nil)
  have l0 : landPts m fullShare.right c (.cw 7) = cwAt m fullShare.right c 8 := land_cw m fullShare.right c 7 (by decide)
  have l1 : landPts m fullShare.right c (.cx 7 0) = cxAt m fullShare.right c 8 0 := land_cx m fullShare.right c 7 (by decide) 0
  have l2 : landPts m fullShare.right c (.cx 7 1) = cxAt m fullShare.right c 8 1 := land_cx m fullShare.right c 7 (by decide) 1
  unfold hop8 scales
  rw [show later 1 = [.cw 7, .cx 7 0, .cx 7 1] from rfl,
    bigSepL_cons', bigSepL_cons', bigSepL_singleton, bigSepL_cons', bigSepL_cons', bigSepL_singleton]
  simp only [bind_assoc, smemLoad, smemLoadElt, Prog.bind_op, Prog.bind_ret]
  iintro ⟨#HR, #Hl, ⟨R0, R1, R2⟩, ⟨Hsx, Hsw⟩, HO, Ho⟩ Hk
  iapply (wp_load_rect 𝒱₀ (c : Thread nD τ) none Set.univ (m := sxM) (r := oneRect) (Finset.subset_univ _)) $$ Hsx; iintro Hsx
  iapply (wp_load_rect 𝒱₀ (c : Thread nD τ) none Set.univ (m := swM) (r := oneRect) (Finset.subset_univ _)) $$ Hsw; iintro Hsw
  iapply (take_spec m K c (.cw 7) (later 0) (H0 _) W _ Q) $$ [R0 HO]
  · isplitr; · iexact HR
    isplitr; · iexact Hl
    isplitl [R0]; · iexact R0
    iexact HO
  iintro ⟨G0, E0, %W0, HO⟩
  iapply (take_spec m K c (.cx 7 0) (later 0) (H0 _) W0 _ Q) $$ [R1 HO]
  · isplitr; · iexact HR
    isplitr; · iexact Hl
    isplitl [R1]; · iexact R1
    iexact HO
  iintro ⟨G1, E1, %W1, HO⟩
  unfold got
  icases G0 with ⟨S0, D0, Z0⟩
  icases G1 with ⟨S1, D1, Z1⟩
  ihave B0 := (Entails.of_eq l0) $$ D0
  ihave B1 := (Entails.of_eq l1) $$ D1
  iapply (lastBlk_spec m c _ _ 0 (all 7) 0 rfl rfl _ Q) $$ [B1 B0 Ho]
  · isplitl [B1]; · iexact B1
    isplitl [B0]; · iexact B0
    iexact Ho
  iintro ⟨B1, B0, Ho⟩
  iapply (lastBlk_spec m c _ _ 0 (Function.update (all 7) 0 (some 8)) 1 rfl rfl _ Q) $$ [B1 B0 Ho]
  · isplitl [B1]; · iexact B1
    isplitl [B0]; · iexact B0
    iexact Ho
  iintro ⟨B1, B0, Ho⟩
  iapply (take_spec m K c (.cx 7 1) (later 0) (H0 _) W1 _ Q) $$ [R2 HO]
  · isplitr; · iexact HR
    isplitr; · iexact Hl
    isplitl [R2]; · iexact R2
    iexact HO
  iintro ⟨G2, E2, %W2, HO⟩
  unfold got
  icases G2 with ⟨S2, D2, Z2⟩
  ihave B2 := (Entails.of_eq l2) $$ D2
  iapply (lastBlk_spec m c _ _ 1 (Function.update (Function.update (all 7) 0 (some 8)) 1 (some 8)) 2 rfl rfl _ Q) $$ [B2 B0 Ho]
  · isplitl [B2]; · iexact B2
    isplitl [B0]; · iexact B0
    iexact Ho
  iintro ⟨B2, B0, Ho⟩
  iapply (lastBlk_spec m c _ _ 1 (Function.update (Function.update (Function.update (all 7) 0 (some 8)) 1 (some 8)) 2 (some 8)) 3 rfl rfl _ Q) $$ [B2 B0 Ho]
  · isplitl [B2]; · iexact B2
    isplitl [B0]; · iexact B0
    iexact Ho
  iintro ⟨B2, B0, Ho⟩
  have e : Function.update (Function.update (Function.update (Function.update (all 7) 0 (some 8)) 1 (some 8)) 2 (some 8)) 3 (some 8) = all 8 := by
    funext r; fin_cases r <;> rfl
  rw [e]
  ihave D0 := (Entails.of_eq l0.symm) $$ B0
  ihave D1 := (Entails.of_eq l1.symm) $$ B1
  ihave D2 := (Entails.of_eq l2.symm) $$ B2
  iapply Hk
  isplitl [S0 D0 Z0 S1 D1 Z1 S2 D2 Z2]
  · isplitl [S0 D0 Z0]
    · isplitl [S0]; · iexact S0
      isplitl [D0]; · iexact D0
      iexact Z0
    isplitl [S1 D1 Z1]
    · isplitl [S1]; · iexact S1
      isplitl [D1]; · iexact D1
      iexact Z1
    isplitl [S2]; · iexact S2
    isplitl [D2]; · iexact D2
    iexact Z2
  isplitl [E0 E1 E2]
  · isplitl [E0]; · iexact E0
    isplitl [E1]; · iexact E1
    iexact E2
  isplitl [Hsx Hsw]
  · isplitl [Hsx]; · iexact Hsx
    iexact Hsw
  isplitl [HO]; · iexists _; iexact HO
  iexact Ho

end Cert.KernelIdeal.RingGemm

end
-- ==== Proof.Core.lean ====
module

public import proofs.«01_k».proof.Proof.Hops

/-! # The body

The parts put together: what a device needs to run its body and what it holds after. -/

@[expose] public section

noncomputable section

namespace Cert.KernelIdeal.RingGemm

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Option (Bool × T) → ℕ)

/-! ## The shares of the device's own blocks -/

omit [FloatOps F] in
/-- The device's own block of x is its two halves. -/
theorem x_halves (q : PosShare TreeShare) (c : Dev nD) : xAt m q c
    = iprop((((c : Thread nD τ).loc cc0_stg0_0) ↦[(xH 0).view.set]{q} xIn m c) ∗ (((c : Thread nD τ).loc cc0_stg0_0) ↦[(xH 1).view.set]{q} xIn m c)) := by
  have hd : Disjoint (xH 0).view.set (xH 1).view.set := by
    rw [Finset.disjoint_left]
    intro i h0 h1
    rw [View.set_slice_whole, Rect.mem_set_unit] at h0 h1
    have a0 : 2048 * 0 ≤ (i 0).val ∧ (i 0).val < 2048 * 0 + 2048 := h0 0
    have a1 : 2048 * 1 ≤ (i 0).val ∧ (i 0).val < 2048 * 1 + 2048 := h1 0
    omega
  have hu : (xH 0).view.set ∪ (xH 1).view.set = Finset.univ := by
    apply Finset.eq_univ_of_forall
    intro i
    have b0 : (i 0).val < 4096 := (i 0).isLt
    have b1 : (i 1).val < 256 := (i 1).isLt
    rw [Finset.mem_union, View.set_slice_whole, View.set_slice_whole, Rect.mem_set_unit, Rect.mem_set_unit]
    by_cases h : (i 0).val < 2048
    · refine .inl fun a => ?_
      match a with
      | ⟨0, _⟩ => show 2048 * 0 ≤ (i 0).val ∧ (i 0).val < 2048 * 0 + 2048; omega
      | ⟨1, _⟩ => show 0 ≤ (i 1).val ∧ (i 1).val < 0 + 256; omega
    · refine .inr fun a => ?_
      match a with
      | ⟨0, _⟩ => show 2048 * 1 ≤ (i 0).val ∧ (i 0).val < 2048 * 1 + 2048; omega
      | ⟨1, _⟩ => show 0 ≤ (i 1).val ∧ (i 1).val < 0 + 256; omega
  have h := pointsTo_union (Ix := Unit) (Name := ℕ) (U := UU) (Lvl := ℕ) (ℓ := (c : Thread nD τ).loc cc0_stg0_0) (q := q) (f := xIn m c) hd
  unfold xAt
  rw [← hu]
  exact equiv_iff.mp ⟨h.1, h.2⟩

omit [FloatOps F] in
/-- A share of the x operand is its two halves. -/
theorem x_shares (q : PosShare TreeShare) (c : Dev nD) : xAt m q c = iprop(xAt m q.left c ∗ xAt m q.right c) := by
  have h := pointsTo_share (Ix := Unit) (Name := ℕ) (U := UU) (Lvl := ℕ) (ℓ := (c : Thread nD τ).loc cc0_stg0_0) (I := Finset.univ) (f := xIn m c) (PosShare.mem_left_op_right q)
  exact equiv_iff.mp ⟨h.1, h.2⟩
omit [FloatOps F] in
/-- A share of the w operand is its two halves. -/
theorem w_shares (q : PosShare TreeShare) (c : Dev nD) : wAt m q c = iprop(wAt m q.left c ∗ wAt m q.right c) := by
  have h := pointsTo_share (Ix := Unit) (Name := ℕ) (U := UU) (Lvl := ℕ) (ℓ := (c : Thread nD τ).loc cc0_stg1_0) (I := Finset.univ) (f := wIn m c) (PosShare.mem_left_op_right q)
  exact equiv_iff.mp ⟨h.1, h.2⟩

omit [FloatOps F] in
/-- The six first sources, by the buffer they lie in. -/
theorem first_sources (c : Dev nD) : (bigSepL (six 0) (fun t => srcPts m c t) : sProp 𝕄)
    = iprop(wAt m fullShare.left c ∗ wAt m fullShare.right.left c
      ∗ (((c : Thread nD τ).loc cc0_stg0_0) ↦[(xH 0).view.set]{fullShare.left} xIn m c) ∗ (((c : Thread nD τ).loc cc0_stg0_0) ↦[(xH 0).view.set]{fullShare.right.left} xIn m c)
      ∗ (((c : Thread nD τ).loc cc0_stg0_0) ↦[(xH 1).view.set]{fullShare.left} xIn m c) ∗ (((c : Thread nD τ).loc cc0_stg0_0) ↦[(xH 1).view.set]{fullShare.right.left} xIn m c)) := by
  have hw : (wM : Memref sig .tc .vmem S256x2048 .fp8e5m2).view.set = Finset.univ := View.set_whole _
  have a0 : srcPts m c (.cw 0) = wAt m fullShare.left c :=
    congrArg (fun S => (((c : Thread nD τ).loc cc0_stg1_0 ↦[S]{fullShare.left} wIn m c) : sProp 𝕄)) hw
  have a1 : srcPts m c (.kw 0) = wAt m fullShare.right.left c :=
    congrArg (fun S => (((c : Thread nD τ).loc cc0_stg1_0 ↦[S]{fullShare.right.left} wIn m c) : sProp 𝕄)) hw
  rw [show (0 : Fin 7) = ⟨0, by omega⟩ from rfl, six_sep]
  exact congrArg₂ (fun A B => iprop(A ∗ B ∗ _)) a0 a1

omit [FloatOps F] in
/-- The two blocks lent out: six shares to the first transfers, one of each kept to multiply. -/
theorem lend (c : Dev nD) : iprop(xAt m fullShare c ∗ wAt m fullShare c)
    ⊢ iprop(bigSepL (six 0) (fun t => srcPts m c t) ∗ xAt m fullShare.right.right c ∗ wAt m fullShare.right.right c) := by
  rw [first_sources, x_shares, x_shares m fullShare.right, w_shares, w_shares m fullShare.right, x_halves m fullShare.left, x_halves m fullShare.right.left]
  iintro ⟨⟨⟨X0, X1⟩, ⟨Y0, Y1⟩, Z⟩, W0, W1, W2⟩
  isplitl [X0 X1 Y0 Y1 W0 W1]
  · isplitl [W0]; · iexact W0
    isplitl [W1]; · iexact W1
    isplitl [X0]; · iexact X0
    isplitl [Y0]; · iexact Y0
    isplitl [X1]; · iexact X1
    iexact Y1
  isplitl [Z]; · iexact Z
  iexact W2
omit [FloatOps F] in
/-- And back. -/
theorem lend_back (c : Dev nD) : iprop(bigSepL (six 0) (fun t => srcPts m c t) ∗ xAt m fullShare.right.right c ∗ wAt m fullShare.right.right c)
    ⊢ iprop(xAt m fullShare c ∗ wAt m fullShare c) := by
  rw [first_sources, x_shares m fullShare, x_shares m fullShare.right, w_shares m fullShare, w_shares m fullShare.right, x_halves m fullShare.left, x_halves m fullShare.right.left]
  iintro ⟨⟨W0, W1, X0, Y0, X1, Y1⟩, Z, W2⟩
  isplitl [X0 X1 Y0 Y1 Z]
  · isplitl [X0 X1]; · isplitl [X0] <;> iassumption
    isplitl [Y0 Y1]; · isplitl [Y0] <;> iassumption
    iexact Z
  isplitl [W0]; · iexact W0
  isplitl [W1] <;> iassumption

/-! ## The slots put together again -/

/-- The transfer that passes on what `t` brought, if one does; else the first of its kind. -/
def nxt : T → T
  | .cx j f => if h : j.val + 1 < 8 then .cx ⟨j.val + 1, h⟩ f else .cx 0 f
  | .cw j => if h : j.val + 1 < 8 then .cw ⟨j.val + 1, h⟩ else .cw 0
  | .kx j f => if h : j.val + 1 < 7 then .kx ⟨j.val + 1, h⟩ f else .kx 0 f
  | .kw j => if h : j.val + 1 < 7 then .kw ⟨j.val + 1, h⟩ else .kw 0
/-- Whether one does. -/
def goesOn : T → Bool
  | .cx j _ => decide (j.val + 1 < 8)
  | .cw j => decide (j.val + 1 < 8)
  | .kx j _ => decide (j.val + 1 < 7)
  | .kw j => decide (j.val + 1 < 7)

omit [FloatOps F] in
/-- What the next hop of a flow sends is half the share of what this hop brought. -/
theorem src_nxt (c : Dev nD) (t : T) (h : goesOn t = true) : srcPts m c (nxt t) = landPts m fullShare.left c t := by
  match t with
  | .cx ⟨j, hj⟩ f => have h := of_decide_eq_true h; have e : nxt (.cx ⟨j, hj⟩ f) = .cx ⟨j + 1, h⟩ f := dif_pos h; rw [e]; exact src_cx m c j h f
  | .cw ⟨j, hj⟩ => have h := of_decide_eq_true h; have e : nxt (.cw ⟨j, hj⟩) = .cw ⟨j + 1, h⟩ := dif_pos h; rw [e]; exact src_cw m c j h
  | .kx ⟨j, hj⟩ f => have h := of_decide_eq_true h; have e : nxt (.kx ⟨j, hj⟩ f) = .kx ⟨j + 1, h⟩ f := dif_pos h; rw [e]; exact src_kx m c j h f
  | .kw ⟨j, hj⟩ => have h := of_decide_eq_true h; have e : nxt (.kw ⟨j, hj⟩) = .kw ⟨j + 1, h⟩ := dif_pos h; rw [e]; exact src_kw m c j h

/-- The transfers whose slot is passed on, and the six whose slot is not. -/
def passed : List T := (later 8).filter goesOn
def ended : List T := [.kw 6, .kx 6 0, .kx 6 1, .cw 7, .cx 7 0, .cx 7 1]
/-- A transfer that is passed on does go on. -/
theorem passed_on : ∀ t ∈ passed, goesOn t = true := fun _ h => (List.mem_filter.mp h).2
/-- The transfers after those passed on are all but the first hop's. -/
theorem passed_nxt : passed.map nxt = later 7 := by decide
/-- No transfer is listed twice among those passed on and those that end. -/
theorem passed_ended_nodup : (passed ++ ended).Nodup := by decide
/-- Every transfer is passed on or ends. -/
theorem passed_ended_univ : (Finset.univ : Finset T) = (passed ++ ended).toFinset := by decide
/-- All transfers: those of the first hop, then the later ones. -/
theorem later_eight : later 8 = six 0 ++ later 7 := rfl

omit [FloatOps F] in
/-- A family over the transfers, in the order of the schedule. -/
theorem over_all (Φ : T → sProp 𝕄) : bigSep Finset.univ Φ = bigSepL (later 8) Φ := bigSep_univ_eq_bigSepL _ later_univ later_nodup Φ

omit [FloatOps F] in
/-- The sources of all transfers after the first, and the halves that ended here, are the left halves of all slots. -/
theorem left_halves (c : Dev nD) : iprop(bigSepL (later 7) (fun t => srcPts m c t) ∗ bigSepL ended fun t => landPts m fullShare.left c t)
    = bigSep Finset.univ fun t => landPts m fullShare.left c t := by
  rw [bigSep_univ_eq_bigSepL _ passed_ended_univ passed_ended_nodup, bigSepL_append, ← passed_nxt, bigSepL_map]
  have h : bigSepL passed (fun t => srcPts m c (nxt t)) = bigSepL passed fun t => landPts m fullShare.left c t := by
    have go : ∀ l : List T, (∀ t ∈ l, goesOn t = true) → bigSepL l (fun t => srcPts m c (nxt t)) = bigSepL l fun t => landPts m fullShare.left c t := by
      intro l hl
      induction l with
      | nil => rfl
      | cons t l ih =>
        rw [bigSepL_cons', bigSepL_cons', src_nxt m c t (hl t List.mem_cons_self), ih fun t ht => hl t (List.mem_cons_of_mem _ ht)]
    exact go passed passed_on
  rw [h]

/-- What is left of all transfers, put together: the device's own blocks, the filled slots, the counts at zero. -/
theorem gather (c : Dev nD) : iprop(bigSepL (later 8) (fun t => got m c t) ∗ (bigSepL ended fun t => landPts m fullShare.left c t)
      ∗ xAt m fullShare.right.right c ∗ wAt m fullShare.right.right c)
    ⊢ iprop((xAt m fullShare c ∗ wAt m fullShare c) ∗ (bigSep Finset.univ fun t => landPts m fullShare c t) ∗ bigSep Finset.univ fun t => shut (F := F) c t) := by
  have hl : (fun t => landPts m fullShare c t) = fun t => (iprop(landPts m fullShare.left c t ∗ landPts m fullShare.right c t) : sProp 𝕄) := funext fun t => land_half m c t
  unfold got
  rw [list_sep, list_sep, hl, bigSep_sep', over_all (fun t => landPts m fullShare.right c t), over_all (fun t => shut (F := F) c t), ← left_halves, later_eight,
    bigSepL_append (six 0) (later 7) (fun t => srcPts m c t)]
  iintro ⟨⟨⟨S, S'⟩, R, Z⟩, E, X, W⟩
  isplitl [S X W]
  · iapply (lend_back m c)
    isplitl [S]; · iexact S
    isplitl [X] <;> iassumption
  isplitl [S' E R]
  · isplitl [S' E]; · isplitl [S'] <;> iassumption
    iexact R
  iexact Z

/-! ## The whole body -/

/-- What a device starts with, apart from its buffers. -/
def tools (c : Dev nD) : sProp 𝕄 :=
  iprop(atPos ER (barC c) 0 ∅ 0 ∗ cred (tallyAt (barC c) () 2) ∗ dutyTok ER (barC (lf c)) 0 true ∗ dutyTok ER (barC (rt c)) 0 false
    ∗ (bigSep Finset.univ fun t => waitTok (F := F) c t) ∗ bigSep Finset.univ fun t => sendTok (F := F) c t)
/-- Its buffers before. -/
def before (c : Dev nD) : sProp 𝕄 :=
  iprop((xAt m fullShare c ∗ wAt m fullShare c) ∗ scales m c ∗ outIs m c (fun _ => none) ∗ bigSep Finset.univ fun t => free (F := F) c t)
/-- And after. -/
def after (c : Dev nD) : sProp 𝕄 :=
  iprop((xAt m fullShare c ∗ wAt m fullShare c) ∗ scales m c ∗ outIs m c (all 8) ∗ (bigSep Finset.univ fun t => landPts m fullShare c t)
    ∗ (bigSep Finset.univ fun t => shut (F := F) c t) ∗ semVal (barC c) 0)

/-- The four row blocks of the own product. -/
theorem first_spec (c : Dev nD) (q q' : PosShare TreeShare) {α : Type} (k : PUnit → Bd F α) (Q : α → sProp 𝕄) :
    iprop(xAt m q c ∗ wAt m q' c ∗ outIs m c (fun _ => none))
      ⊢ iprop(((xAt m q c ∗ wAt m q' c ∗ outIs m c (all 0)) -∗ wp frame (wpE (defs₀ (F := F)) 𝒱₀ (c : Thread nD τ) none) Set.univ (k ⟨⟩) Q)
          -∗ wp frame (wpE (defs₀ (F := F)) 𝒱₀ (c : Thread nD τ) none) Set.univ
            (firstBlk 0 >>= fun _ => firstBlk 1 >>= fun _ => firstBlk 2 >>= fun _ => firstBlk 3 >>= k) Q) := by
  have e : Function.update (Function.update (Function.update (Function.update (fun _ => none) 0 (some 0)) 1 (some 0)) 2 (some 0)) 3 (some 0) = all 0 := by
    funext r; fin_cases r <;> rfl
  iintro ⟨Hx, Hw, Ho⟩ Hk
  iapply (firstBlk_spec m c q q' (fun _ => none) 0) $$ [Hx Hw Ho]
  · isplitl [Hx]; · iexact Hx
    isplitl [Hw]; · iexact Hw
    iexact Ho
  iintro ⟨Hx, Hw, Ho⟩
  iapply (firstBlk_spec m c q q' _ 1) $$ [Hx Hw Ho]
  · isplitl [Hx]; · iexact Hx
    isplitl [Hw]; · iexact Hw
    iexact Ho
  iintro ⟨Hx, Hw, Ho⟩
  iapply (firstBlk_spec m c q q' _ 2) $$ [Hx Hw Ho]
  · isplitl [Hx]; · iexact Hx
    isplitl [Hw]; · iexact Hw
    iexact Ho
  iintro ⟨Hx, Hw, Ho⟩
  iapply (firstBlk_spec m c q q' _ 3) $$ [Hx Hw Ho]
  · isplitl [Hx]; · iexact Hx
    isplitl [Hw]; · iexact Hw
    iexact Ho
  iintro ⟨Hx, Hw, Ho⟩
  rw [e]
  iapply Hk
  isplitl [Hx]; · iexact Hx
  isplitl [Hw]; · iexact Hw
  iexact Ho

/-- The transfers, hop by hop. -/
theorem eight_hops : later 8 = six 0 ++ (six 1 ++ (six 2 ++ (six 3 ++ (six 4 ++ (six 5 ++ (six 6 ++ later 1)))))) := rfl

omit [FloatOps F] in
/-- Over all transfers, hop by hop. -/
theorem by_hop (Φ : T → sProp 𝕄) : bigSepL (later 8) Φ
    = iprop(bigSepL (six 0) Φ ∗ bigSepL (six 1) Φ ∗ bigSepL (six 2) Φ ∗ bigSepL (six 3) Φ ∗ bigSepL (six 4) Φ ∗ bigSepL (six 5) Φ ∗ bigSepL (six 6) Φ ∗ bigSepL (later 1) Φ) := by
  rw [eight_hops]
  simp only [bigSepL_append]

/-- The body of device `c`. -/
theorem body_spec (c : Dev nD) (W : Waits sig Unit) (Q : PUnit → sProp 𝕄) :
    iprop(records m K ∗ levAts L lv ∗ tools (F := F) c ∗ before m c ∗ owes (c : Thread nD τ) (O₀ c) W)
      ⊢ iprop(((after m c ∗ ∃ W', owes (c : Thread nD τ) 0 W') -∗ Q ⟨⟩)
          -∗ wp frame (wpE (defs₀ (F := F)) 𝒱₀ (c : Thread nD τ) none) Set.univ (body (F := F)) Q) := by
  unfold body tools before after
  simp only [Prog.lift, Prog.bind_op, Prog.bind_ret, Prog.pure_eq_ret, wp_deviceId]
  iintro ⟨#HR, #Hl, ⟨Ha, Hc, Ht1, Ht2, HW, HS⟩, ⟨Hxw, Hsc, Ho, Hf⟩, HO⟩ Hk
  iapply (hello_spec m K c W _ Q) $$ [Ha Hc Ht1 Ht2 Hf HO]
  · isplitr; · iexact HR
    isplitr; · iexact Hl
    isplitl [Ha]; · iexact Ha
    isplitl [Hc]; · iexact Hc
    isplitl [Ht1]; · iexact Ht1
    isplitl [Ht2]; · iexact Ht2
    isplitl [Hf]; · iexact Hf
    iexact HO
  iintro ⟨HF, HB, %W0, HO⟩
  ihave HN := (show iprop((bigSep Finset.univ fun t => sendTok (F := F) c t) ∗ bigSep Finset.univ fun t => free (F := F) (peer c t) t) ⊢ bigSepL (later 8) (fun t => next (F := F) c t) from by
    rw [← bigSep_sep', over_all]; exact .rfl) $$ [HS HF]
  · isplitl [HS] <;> iassumption
  ihave HN := (Entails.of_eq (by_hop (fun t => next (F := F) c t))) $$ HN
  icases HN with ⟨N0, N1, N2, N3, N4, N5, N6, N7⟩
  ihave HW := (Entails.of_eq ((over_all (fun t => waitTok (F := F) c t)).trans (by_hop (fun t => waitTok (F := F) c t)))) $$ HW
  icases HW with ⟨A0, A1, A2, A3, A4, A5, A6, A7⟩
  ihave HL := (lend m c) $$ Hxw
  icases HL with ⟨Hs, Hx, Hw⟩
  iapply (start_spec m K c W0 _ Q) $$ [Hs N0 HO]
  · isplitr; · iexact HR
    isplitl [Hs]; · iexact Hs
    isplitl [N0]; · iexact N0
    iexact HO
  iintro ⟨Y0, %V0, HO⟩
  iapply (first_spec m c _ _ _ Q) $$ [Hx Hw Ho]
  · isplitl [Hx]; · iexact Hx
    isplitl [Hw]; · iexact Hw
    iexact Ho
  iintro ⟨Hx, Hw, Ho⟩
  ihave R0 := (Entails.of_eq (list_sep (six 0) (fun t => waitTok (F := F) c t) (fun t => fly (F := F) c t)).symm) $$ [A0 Y0]
  · isplitl [A0]; · iexact A0
    iexact Y0
  iapply (hop_spec m K c 0 V0 _ Q) $$ [R0 N1 HO Ho]
  · isplitr; · iexact HR
    isplitr; · iexact Hl
    isplitl [R0]; · iexact R0
    isplitl [N1]; · iexact N1
    isplitl [HO]; · iexact HO
    iexact Ho
  iintro ⟨G0, Y1, ⟨%V1, HO⟩, Ho⟩
  ihave R1 := (Entails.of_eq (list_sep (six 1) (fun t => waitTok (F := F) c t) (fun t => fly (F := F) c t)).symm) $$ [A1 Y1]
  · isplitl [A1]; · iexact A1
    iexact Y1
  iapply (hop_spec m K c 1 V1 _ Q) $$ [R1 N2 HO Ho]
  · isplitr; · iexact HR
    isplitr; · iexact Hl
    isplitl [R1]; · iexact R1
    isplitl [N2]; · iexact N2
    isplitl [HO]; · iexact HO
    iexact Ho
  iintro ⟨G1, Y2, ⟨%V2, HO⟩, Ho⟩
  ihave R2 := (Entails.of_eq (list_sep (six 2) (fun t => waitTok (F := F) c t) (fun t => fly (F := F) c t)).symm) $$ [A2 Y2]
  · isplitl [A2]; · iexact A2
    iexact Y2
  iapply (hop_spec m K c 2 V2 _ Q) $$ [R2 N3 HO Ho]
  · isplitr; · iexact HR
    isplitr; · iexact Hl
    isplitl [R2]; · iexact R2
    isplitl [N3]; · iexact N3
    isplitl [HO]; · iexact HO
    iexact Ho
  iintro ⟨G2, Y3, ⟨%V3, HO⟩, Ho⟩
  ihave R3 := (Entails.of_eq (list_sep (six 3) (fun t => waitTok (F := F) c t) (fun t => fly (F := F) c t)).symm) $$ [A3 Y3]
  · isplitl [A3]; · iexact A3
    iexact Y3
  iapply (hop_spec m K c 3 V3 _ Q) $$ [R3 N4 HO Ho]
  · isplitr; · iexact HR
    isplitr; · iexact Hl
    isplitl [R3]; · iexact R3
    isplitl [N4]; · iexact N4
    isplitl [HO]; · iexact HO
    iexact Ho
  iintro ⟨G3, Y4, ⟨%V4, HO⟩, Ho⟩
  ihave R4 := (Entails.of_eq (list_sep (six 4) (fun t => waitTok (F := F) c t) (fun t => fly (F := F) c t)).symm) $$ [A4 Y4]
  · isplitl [A4]; · iexact A4
    iexact Y4
  iapply (hop_spec m K c 4 V4 _ Q) $$ [R4 N5 HO Ho]
  · isplitr; · iexact HR
    isplitr; · iexact Hl
    isplitl [R4]; · iexact R4
    isplitl [N5]; · iexact N5
    isplitl [HO]; · iexact HO
    iexact Ho
  iintro ⟨G4, Y5, ⟨%V5, HO⟩, Ho⟩
  ihave R5 := (Entails.of_eq (list_sep (six 5) (fun t => waitTok (F := F) c t) (fun t => fly (F := F) c t)).symm) $$ [A5 Y5]
  · isplitl [A5]; · iexact A5
    iexact Y5
  iapply (hop_spec m K c 5 V5 _ Q) $$ [R5 N6 HO Ho]
  · isplitr; · iexact HR
    isplitr; · iexact Hl
    isplitl [R5]; · iexact R5
    isplitl [N6]; · iexact N6
    isplitl [HO]; · iexact HO
    iexact Ho
  iintro ⟨G5, Y6, ⟨%V6, HO⟩, Ho⟩
  ihave R6 := (Entails.of_eq (list_sep (six 6) (fun t => waitTok (F := F) c t) (fun t => fly (F := F) c t)).symm) $$ [A6 Y6]
  · isplitl [A6]; · iexact A6
    iexact Y6
  iapply (hop7_spec m K c V6 _ Q) $$ [R6 N7 HO Ho]
  · isplitr; · iexact HR
    isplitr; · iexact Hl
    isplitl [R6]; · iexact R6
    isplitl [N7]; · iexact N7
    isplitl [HO]; · iexact HO
    iexact Ho
  iintro ⟨G6, Y7, ⟨E0, E1, E2⟩, ⟨%V7, HO⟩, Ho⟩
  ihave R7 := (Entails.of_eq (list_sep (later 1) (fun t => waitTok (F := F) c t) (fun t => fly (F := F) c t)).symm) $$ [A7 Y7]
  · isplitl [A7]; · iexact A7
    iexact Y7
  rw [← bind_pure (hop8 (F := F))]
  iapply (hop8_spec m K c V7 _ Q) $$ [R7 Hsc HO Ho]
  · isplitr; · iexact HR
    isplitr; · iexact Hl
    isplitl [R7]; · iexact R7
    isplitl [Hsc]; · iexact Hsc
    isplitl [HO]; · iexact HO
    iexact Ho
  iintro ⟨G7, ⟨E3, E4, E5⟩, Hsc, ⟨%V8, HO⟩, Ho⟩
  rw [Prog.pure_eq_ret, wp_ret]; imodintro
  ihave HG := (Entails.of_eq (by_hop (fun t => got m c t)).symm) $$ [G0 G1 G2 G3 G4 G5 G6 G7]
  · isplitl [G0]; · iexact G0
    isplitl [G1]; · iexact G1
    isplitl [G2]; · iexact G2
    isplitl [G3]; · iexact G3
    isplitl [G4]; · iexact G4
    isplitl [G5]; · iexact G5
    isplitl [G6]; · iexact G6
    iexact G7
  ihave HE := (show iprop(landPts m fullShare.left c (.kw 6) ∗ landPts m fullShare.left c (.kx 6 0) ∗ landPts m fullShare.left c (.kx 6 1)
      ∗ landPts m fullShare.left c (.cw 7) ∗ landPts m fullShare.left c (.cx 7 0) ∗ landPts m fullShare.left c (.cx 7 1))
      ⊢ bigSepL ended fun t => landPts m fullShare.left c t from .rfl) $$ [E0 E1 E2 E3 E4 E5]
  · isplitl [E0]; · iexact E0
    isplitl [E1]; · iexact E1
    isplitl [E2]; · iexact E2
    isplitl [E3]; · iexact E3
    isplitl [E4]; · iexact E4
    iexact E5
  ihave HA := (gather m c) $$ [HG HE Hx Hw]
  · isplitl [HG]; · iexact HG
    isplitl [HE]; · iexact HE
    isplitl [Hx] <;> iassumption
  icases HA with ⟨Hxw, Hland, Hz⟩
  iapply Hk
  isplitr [HO]
  · isplitl [Hxw]; · iexact Hxw
    isplitl [Hsc]; · iexact Hsc
    isplitl [Ho]; · iexact Ho
    isplitl [Hland]; · iexact Hland
    isplitl [Hz]; · iexact Hz
    iexact HB
  iexists _; iexact HO

end Cert.KernelIdeal.RingGemm

end
-- ==== Proof.Body.lean ====
module

public import proofs.«01_k».proof.Proof.Core

/-! # The body as the pipeline calls it

The scratch buffers cut into the slots the transfers fill and put together again, the
state before and after the one grid point, and the body's obligation. -/

@[expose] public section

noncomputable section

namespace Cert.KernelIdeal.RingGemm

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Dat BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Slots of a scratch buffer -/

/-- A buffer at contents not spoken of, and the part of it outside a family of sets. -/
def some' (ℓ : Loc nD τ sig) : sProp 𝕄 := iprop(∃ f : Buf (Elt F) ℓ, ℓ ↦{fullShare} f)
def gap {I : Type} [Fintype I] (ℓ : Loc nD τ sig) (S : I → Finset (Idx ℓ)) : sProp 𝕄 :=
  iprop(∃ f : Buf (Elt F) ℓ, ℓ ↦[Finset.univ \ Finset.univ.biUnion S]{fullShare} f)

omit [FloatOps F] in
/-- A whole buffer is its disjoint slots and what is left of it. -/
theorem slots_open {I : Type} [Fintype I] (ℓ : Loc nD τ sig) (S : I → Finset (Idx ℓ)) (hS : ∀ i j, i ≠ j → Disjoint (S i) (S j)) :
    some' (F := F) ℓ ⊢ iprop((bigSep Finset.univ fun i => iprop(∃ f : Buf (Elt F) ℓ, ℓ ↦[S i]{fullShare} f)) ∗ gap (F := F) ℓ S) := by
  unfold some' gap
  iintro ⟨%f, H⟩
  ihave H := (pointsTo_split_subset (Ix := Unit) (Name := ℕ) (U := UU) (Lvl := ℕ) (ℓ := ℓ) (q := fullShare) (f := f) (Finset.subset_univ (Finset.univ.biUnion S))).1 $$ H
  rw [pointsTo_biUnion Finset.univ S fun i _ j _ h => hS i j h]
  icases H with ⟨H, Hg⟩
  isplitl [H]
  · have h : (bigSep Finset.univ fun i => (ℓ ↦[S i]{fullShare} f : sProp 𝕄)) ⊢ bigSep Finset.univ fun i => iprop(∃ f : Buf (Elt F) ℓ, ℓ ↦[S i]{fullShare} f) :=
      bigSep_mono fun i _ => show (ℓ ↦[S i]{fullShare} f : sProp 𝕄) ⊢ iprop(∃ f : Buf (Elt F) ℓ, ℓ ↦[S i]{fullShare} f) from by
        iintro H; iexists f; iexact H
    iapply h
    iexact H
  iexists f; iexact Hg

omit [FloatOps F] in
/-- The disjoint slots of a buffer and what is left of it, whatever they hold, are the whole buffer again. -/
theorem slots_close {I : Type} [Fintype I] (ℓ : Loc nD τ sig) (S : I → Finset (Idx ℓ)) (hS : ∀ i j, i ≠ j → Disjoint (S i) (S j)) (g : Buf (Elt F) ℓ) :
    iprop((bigSep Finset.univ fun i => (ℓ ↦[S i]{fullShare} g : sProp 𝕄)) ∗ gap (F := F) ℓ S) ⊢ some' (F := F) ℓ := by
  unfold some' gap
  rw [← pointsTo_biUnion Finset.univ S fun i _ j _ h => hS i j h]
  iintro ⟨H, %f, Hg⟩
  ihave H := (pointsTo_join_subset (Ix := Unit) (Name := ℕ) (U := UU) (Lvl := ℕ) (ℓ := ℓ) (q := fullShare) (g := g) (f := f) (Finset.subset_univ (Finset.univ.biUnion S))) $$ [H Hg]
  · isplitl [H] <;> iassumption
  iexists _; iexact H

/-- The halves of x in the right-going buffer share no element. -/
theorem cx_disj : ∀ i j : Fin 8 × Fin 2, i ≠ j → Disjoint (cxRect i.1.succ i.2).set (cxRect j.1.succ j.2).set := by
  rintro ⟨h, f⟩ ⟨h', f'⟩ hne
  rw [Finset.disjoint_left]
  intro i hi hi'
  rw [Rect.mem_set_unit] at hi hi'
  have a0 : h.val + 1 ≤ (i 0).val ∧ (i 0).val < h.val + 1 + 1 := hi 0
  have b0 : h'.val + 1 ≤ (i 0).val ∧ (i 0).val < h'.val + 1 + 1 := hi' 0
  have a1 : 2048 * f.val ≤ (i 1).val ∧ (i 1).val < 2048 * f.val + 2048 := hi 1
  have b1 : 2048 * f'.val ≤ (i 1).val ∧ (i 1).val < 2048 * f'.val + 2048 := hi' 1
  exact hne (Prod.ext (Fin.ext (by show h.val = h'.val; omega)) (Fin.ext (by show f.val = f'.val; omega)))
/-- The slots of w in the right-going buffer share no element. -/
theorem cw_disj : ∀ i j : Fin 8, i ≠ j → Disjoint (cwRect i.succ).set (cwRect j.succ).set := by
  intro h h' hne
  rw [Finset.disjoint_left]
  intro i hi hi'
  rw [Rect.mem_set_unit] at hi hi'
  have a0 : h.val + 1 ≤ (i 0).val ∧ (i 0).val < h.val + 1 + 1 := hi 0
  have b0 : h'.val + 1 ≤ (i 0).val ∧ (i 0).val < h'.val + 1 + 1 := hi' 0
  exact hne (Fin.ext (by omega))
/-- The halves of x in the left-going buffer share no element. -/
theorem kx_disj : ∀ i j : Fin 7 × Fin 2, i ≠ j → Disjoint (kxRect i.1.succ i.2).set (kxRect j.1.succ j.2).set := by
  rintro ⟨h, f⟩ ⟨h', f'⟩ hne
  rw [Finset.disjoint_left]
  intro i hi hi'
  rw [Rect.mem_set_unit] at hi hi'
  have a0 : h.val + 1 ≤ (i 0).val ∧ (i 0).val < h.val + 1 + 1 := hi 0
  have b0 : h'.val + 1 ≤ (i 0).val ∧ (i 0).val < h'.val + 1 + 1 := hi' 0
  have a1 : 2048 * f.val ≤ (i 1).val ∧ (i 1).val < 2048 * f.val + 2048 := hi 1
  have b1 : 2048 * f'.val ≤ (i 1).val ∧ (i 1).val < 2048 * f'.val + 2048 := hi' 1
  exact hne (Prod.ext (Fin.ext (by show h.val = h'.val; omega)) (Fin.ext (by show f.val = f'.val; omega)))
/-- The slots of w in the left-going buffer share no element. -/
theorem kw_disj : ∀ i j : Fin 7, i ≠ j → Disjoint (kwRect i.succ).set (kwRect j.succ).set := by
  intro h h' hne
  rw [Finset.disjoint_left]
  intro i hi hi'
  rw [Rect.mem_set_unit] at hi hi'
  have a0 : h.val + 1 ≤ (i 0).val ∧ (i 0).val < h.val + 1 + 1 := hi 0
  have b0 : h'.val + 1 ≤ (i 0).val ∧ (i 0).val < h'.val + 1 + 1 := hi' 0
  exact hne (Fin.ext (by omega))

section Slots
variable (c : Dev nD)
/-- The parts of each scratch buffer a transfer fills, one for each transfer. -/
def cxSlot (p : Fin 8 × Fin 2) : Finset (Idx ((c : Thread nD τ).loc cc0_scratch0)) := (cxRect p.1.succ p.2).set
def cwSlot (j : Fin 8) : Finset (Idx ((c : Thread nD τ).loc cc0_scratch1)) := (cwRect j.succ).set
def kxSlot (p : Fin 7 × Fin 2) : Finset (Idx ((c : Thread nD τ).loc cc0_scratch2)) := (kxRect p.1.succ p.2).set
def kwSlot (j : Fin 7) : Finset (Idx ((c : Thread nD τ).loc cc0_scratch3)) := (kwRect j.succ).set
end Slots

omit [FloatOps F] in
/-- Over all transfers, by the buffer they fill. -/
theorem by_buffer (Φ : T → sProp 𝕄) : bigSep Finset.univ Φ
    = iprop(((bigSep Finset.univ fun p : Fin 8 × Fin 2 => Φ (.cx p.1 p.2)) ∗ bigSep Finset.univ fun j : Fin 8 => Φ (.cw j))
      ∗ (bigSep Finset.univ fun p : Fin 7 × Fin 2 => Φ (.kx p.1 p.2)) ∗ bigSep Finset.univ fun j : Fin 7 => Φ (.kw j)) := by
  rw [bigSep_univ_equiv T.equiv, bigSep_univ_sum, bigSep_univ_sum, bigSep_univ_sum]
  rfl

section Free
variable (c : Dev nD)

omit [FloatOps F] in
/-- The free slot of a right-going half of x, by its rectangle. -/
theorem free_cx (j : Fin 8) (f : Fin 2) : free (F := F) c (.cx j f)
    = iprop(∃ g : Buf (Elt F) ((c : Thread nD τ).loc cc0_scratch0), ((c : Thread nD τ).loc cc0_scratch0) ↦[(cxRect j.succ f).set]{fullShare} g) := by
  rw [← cxS_set]
  match j with
  | ⟨0, _⟩ => rfl
  | ⟨_ + 1, _⟩ => rfl
omit [FloatOps F] in
/-- The free slot of a right-going block of w, by its rectangle. -/
theorem free_cw (j : Fin 8) : free (F := F) c (.cw j)
    = iprop(∃ g : Buf (Elt F) ((c : Thread nD τ).loc cc0_scratch1), ((c : Thread nD τ).loc cc0_scratch1) ↦[(cwRect j.succ).set]{fullShare} g) := by
  rw [← cwS_set]
  match j with
  | ⟨0, _⟩ => rfl
  | ⟨_ + 1, _⟩ => rfl
omit [FloatOps F] in
/-- The free slot of a left-going half of x, by its rectangle. -/
theorem free_kx (j : Fin 7) (f : Fin 2) : free (F := F) c (.kx j f)
    = iprop(∃ g : Buf (Elt F) ((c : Thread nD τ).loc cc0_scratch2), ((c : Thread nD τ).loc cc0_scratch2) ↦[(kxRect j.succ f).set]{fullShare} g) := by
  rw [← kxS_set]
  match j with
  | ⟨0, _⟩ => rfl
  | ⟨_ + 1, _⟩ => rfl
omit [FloatOps F] in
/-- The free slot of a left-going block of w, by its rectangle. -/
theorem free_kw (j : Fin 7) : free (F := F) c (.kw j)
    = iprop(∃ g : Buf (Elt F) ((c : Thread nD τ).loc cc0_scratch3), ((c : Thread nD τ).loc cc0_scratch3) ↦[(kwRect j.succ).set]{fullShare} g) := by
  rw [← kwS_set]
  match j with
  | ⟨0, _⟩ => rfl
  | ⟨_ + 1, _⟩ => rfl

/-- The four scratch buffers, -/
def scratch : sProp 𝕄 :=
  iprop(some' (F := F) ((c : Thread nD τ).loc cc0_scratch0) ∗ some' (F := F) ((c : Thread nD τ).loc cc0_scratch1)
    ∗ some' (F := F) ((c : Thread nD τ).loc cc0_scratch2) ∗ some' (F := F) ((c : Thread nD τ).loc cc0_scratch3))
/-- and what of them no transfer fills. -/
def gaps : sProp 𝕄 :=
  iprop(gap (F := F) ((c : Thread nD τ).loc cc0_scratch0) (cxSlot c) ∗ gap (F := F) ((c : Thread nD τ).loc cc0_scratch1) (cwSlot c)
    ∗ gap (F := F) ((c : Thread nD τ).loc cc0_scratch2) (kxSlot c) ∗ gap (F := F) ((c : Thread nD τ).loc cc0_scratch3) (kwSlot c))

omit [FloatOps F] in
/-- The four scratch buffers are the slots the copies land in, and the parts no copy touches. -/
theorem scratch_open : scratch (F := F) c ⊢ iprop((bigSep Finset.univ fun t => free (F := F) c t) ∗ gaps (F := F) c) := by
  unfold scratch gaps
  rw [by_buffer]
  simp only [free_cx, free_cw, free_kx, free_kw]
  iintro ⟨H0, H1, H2, H3⟩
  ihave H0 := (slots_open _ (cxSlot c) cx_disj) $$ H0
  ihave H1 := (slots_open _ (cwSlot c) cw_disj) $$ H1
  ihave H2 := (slots_open _ (kxSlot c) kx_disj) $$ H2
  ihave H3 := (slots_open _ (kwSlot c) kw_disj) $$ H3
  icases H0 with ⟨H0, G0⟩
  icases H1 with ⟨H1, G1⟩
  icases H2 with ⟨H2, G2⟩
  icases H3 with ⟨H3, G3⟩
  isplitl [H0 H1 H2 H3]
  · isplitl [H0 H1]
    · isplitl [H0]; · iexact H0
      iexact H1
    isplitl [H2]; · iexact H2
    iexact H3
  isplitl [G0]; · iexact G0
  isplitl [G1]; · iexact G1
  isplitl [G2]; · iexact G2
  iexact G3

omit [FloatOps F] in
/-- The slots with what has landed, and the parts no copy touches, are the four scratch buffers again. -/
theorem scratch_close : iprop((bigSep Finset.univ fun t => landPts m fullShare c t) ∗ gaps (F := F) c) ⊢ scratch (F := F) c := by
  have e0 (p : Fin 8 × Fin 2) : landPts m fullShare c (.cx p.1 p.2) = cxAt m fullShare c p.1.succ p.2 := land_cx m fullShare c p.1.val p.1.isLt p.2
  have e1 (j : Fin 8) : landPts m fullShare c (.cw j) = cwAt m fullShare c j.succ := land_cw m fullShare c j.val j.isLt
  have e2 (p : Fin 7 × Fin 2) : landPts m fullShare c (.kx p.1 p.2) = kxAt m fullShare c p.1.succ p.2 := land_kx m fullShare c p.1.val p.1.isLt p.2
  have e3 (j : Fin 7) : landPts m fullShare c (.kw j) = kwAt m fullShare c j.succ := land_kw m fullShare c j.val j.isLt
  unfold scratch gaps
  rw [by_buffer]
  simp only [e0, e1, e2, e3]
  unfold cxAt cwAt kxAt kwAt
  iintro ⟨⟨⟨H0, H1⟩, H2, H3⟩, G0, G1, G2, G3⟩
  isplitl [H0 G0]
  · iapply (slots_close _ (cxSlot c) cx_disj (cxAll m c))
    isplitl [H0]; · iexact H0
    iexact G0
  isplitl [H1 G1]
  · iapply (slots_close _ (cwSlot c) cw_disj (cwAll m c))
    isplitl [H1]; · iexact H1
    iexact G1
  isplitl [H2 G2]
  · iapply (slots_close _ (kxSlot c) kx_disj (kxAll m c))
    isplitl [H2]; · iexact H2
    iexact G2
  iapply (slots_close _ (kwSlot c) kw_disj (kwAll m c))
  isplitl [H3]; · iexact H3
  iexact G3

end Free

/-! ## The result, whole -/

/-- The row block a row lies in. -/
def rowBlk (a : Fin 4096) : Fin 4 := ⟨a.val / 1024, by omega⟩
def rowIn (a : Fin 4096) : Fin 1024 := ⟨a.val % 1024, Nat.mod_lt _ (by decide)⟩

/-- Row block and row in it give the row. -/
theorem out_index (i : S4096x2048.Idx) : (oRect (rowBlk (i 0))).emb (ix2 (rowIn (i 0)) (i 1)) = i := by
  funext a
  refine Fin.ext ?_
  rw [Rect.emb_apply]
  have h0 : (i 0).val < 4096 := (i 0).isLt
  match a with
  | ⟨0, _⟩ => show 1024 * ((i 0).val / 1024) + 1 * ((i 0).val % 1024) = (i 0).val; omega
  | ⟨1, _⟩ => show 0 + 1 * (i 1).val = (i 1).val; omega

/-- The result of device `c`. -/
def outAt (c : Dev nD) : (cc0_stg4_0 : Ref sig .tc).ty.Contents (Elt F) :=
  fun (i : S4096x2048.Idx) => acc m c 8 (rowBlk (i 0)) (ix2 (rowIn (i 0)) (i 1))

/-- A result buffer whose four row blocks are done holds the device's result. -/
theorem out_whole (c : Dev nD) (g : (cc0_stg4_0 : Ref sig .tc).ty.Contents (Elt F)) (h : ∀ r k, all 8 r = some k → oblk r g = acc m c k r) : g = outAt m c := by
  funext i
  show g i = acc m c 8 (rowBlk (i 0)) (ix2 (rowIn (i 0)) (i 1))
  rw [← h (rowBlk (i 0)) 8 rfl]
  show g i = g ((oRect (rowBlk (i 0))).emb (ix2 (rowIn (i 0)) (i 1)))
  refine congrArg g ?_
  exact (out_index i).symm

/-! ## The pipeline's data -/

/-- What the launch's global step gives device `c`. -/
def ghost (K : Dev nD × Option (Bool × T) → ℕ) (c : Dev nD) : sProp 𝕄 :=
  iprop(records m K ∗ (atPos ER (barC c) 0 ∅ 0 ∗ bigSep Finset.univ fun p : Bool × T => atPos ER (kcell (c, some p)) 0 ∅ 0)
    ∗ dutyTok ER (barC (lf c)) 0 true ∗ dutyTok ER (barC (rt c)) 0 false ∗ bigSep Finset.univ fun t => sendTok (F := F) c t)
/-- What it starts with, its buffers aside. -/
def startsWith (c : Dev nD) : sProp 𝕄 :=
  iprop((∃ K, ghost m K c) ∗ cred (tallyAt (barC c) () 2) ∗ (bigSep Finset.univ fun t => cred (tallyAt (recvC c t) () (amt t))) ∗ levAts L lv)
def Φ₀ (c : Dev nD) : sProp 𝕄 := iprop(startsWith m c ∗ scratch (F := F) c)
def Φ₁ (c : Dev nD) : sProp 𝕄 :=
  iprop(scratch (F := F) c ∗ (bigSep Finset.univ fun p : Bool × T => semVal (kcell (c, some p)) 0) ∗ semVal (barC c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => wIn m c
    | ⟨2, _⟩ => sxIn m c
    | ⟨3, _⟩ => swIn m c
    | ⟨4, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

omit [FloatOps F] in
/-- Owning a whole buffer is holding every element of it. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

omit [FloatOps F] in
/-- A family over two cases is its two members. -/
theorem bigSep_two (Φ : Bool → sProp 𝕄) : bigSep Finset.univ Φ = iprop(Φ false ∗ Φ true) :=
  bigSep_univ_eq_bigSepL [false, true] (by decide) (by decide) Φ

/-- A buffer at given contents, as the pipeline says it. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ (F := F) c ∗ (dats m ρ 0 c).owesAt () t0_0.succ ∗ stg c cc0_stg0_0 (xIn m c) ∗ stg c cc0_stg1_0 (wIn m c)
    ∗ stg c cc0_stg2_0 (sxIn m c) ∗ stg c cc0_stg3_0 (swIn m c) ∗ stg c cc0_stg4_0 (outAt m c))

/-- The positions, tokens and credits a device starts with, sorted by transfer. -/
theorem tools_intro (K : Dev nD × Option (Bool × T) → ℕ) (c : Dev nD) :
    iprop((atPos ER (barC c) 0 ∅ 0 ∗ bigSep Finset.univ fun p : Bool × T => atPos ER (kcell (c, some p)) 0 ∅ 0)
      ∗ (dutyTok ER (barC (lf c)) 0 true ∗ dutyTok ER (barC (rt c)) 0 false ∗ bigSep Finset.univ fun t => sendTok (F := F) c t)
      ∗ cred (tallyAt (barC c) () 2) ∗ bigSep Finset.univ fun t => cred (tallyAt (recvC c t) () (amt t))) ⊢ tools (F := F) c := by
  unfold tools waitTok
  rw [bigSep_univ_prod, bigSep_two, bigSep_sep', bigSep_sep']
  iintro ⟨⟨Ha, HS, HV⟩, ⟨H1, H2, H3⟩, Hc, HC⟩
  isplitl [Ha]; · iexact Ha
  isplitl [Hc]; · iexact Hc
  isplitl [H1]; · iexact H1
  isplitl [H2]; · iexact H2
  isplitl [HS HV HC]
  · isplitl [HS]; · iexact HS
    isplitl [HV]; · iexact HV
    iexact HC
  iexact H3

omit [FloatOps F] in
/-- The semaphores of all the copies, back at zero. -/
theorem shut_all (c : Dev nD) : (bigSep Finset.univ fun t => shut (F := F) c t) = bigSep Finset.univ fun p : Bool × T => semVal (kcell (c, some p)) 0 := by
  unfold shut
  rw [bigSep_univ_prod, bigSep_two, bigSep_sep']
  rfl

/-- The body of a device is safe and leaves the result the schedule names. -/
theorem sound_body (c : Dev nD) : bodyPre m ρ c ⊢ wp frame (wpE (defs₀ (F := F)) 𝒱₀ c none) Set.univ (body (F := F)) (fun _ => bodyPost m ρ c) := by
  unfold bodyPre Φ₀ startsWith ghost
  iintro ⟨⟨⟨⟨%K, #HR, Hat, Htok⟩, Hc, HC, #Hl⟩, Hscr⟩, Ho, ⟨%d0, %g0, %hg0, H0⟩, ⟨%d1, %g1, %hg1, H1⟩, ⟨%d2, %g2, %hg2, H2⟩, ⟨%d3, %g3, %hg3, H3⟩, ⟨%d4, %g4, %hg4, H4⟩⟩
  have e0 : g0 = xIn m c := by rw [hg0]; unfold Dat.before; rw [if_pos (fetch0_0 t0_0)]; rfl
  have e1 : g1 = wIn m c := by rw [hg1]; unfold Dat.before; rw [if_pos (fetch0_1 t0_0)]; rfl
  have e2 : g2 = sxIn m c := by rw [hg2]; unfold Dat.before; rw [if_pos (fetch0_2 t0_0)]; rfl
  have e3 : g3 = swIn m c := by rw [hg3]; unfold Dat.before; rw [if_pos (fetch0_3 t0_0)]; rfl
  subst e0 e1 e2 e3
  unfold Dat.owesAt Pipeline.owesWithin
  icases Ho with ⟨%W, %hW, HO⟩
  ihave Hs := (scratch_open (F := F) c) $$ Hscr
  icases Hs with ⟨Hf, Hgap⟩
  ihave HT := (tools_intro (F := F) K c) $$ [Hat Htok Hc HC]
  · isplitl [Hat]; · iexact Hat
    isplitl [Htok]; · iexact Htok
    isplitl [Hc]; · iexact Hc
    iexact HC
  iapply (body_spec m K c W (fun _ => bodyPost m ρ c)) $$ [HT H0 H1 H2 H3 H4 Hf HO]
  · isplitr; · iexact HR
    isplitr; · iexact Hl
    isplitl [HT]; · iexact HT
    isplitr [HO]
    · unfold before scales xAt wAt
      isplitl [H0 H1]
      · isplitl [H0]; · iexact H0
        iexact H1
      isplitl [H2 H3]
      · isplitl [H2]; · iexact H2
        iexact H3
      isplitl [H4]
      · unfold outIs
        iexists g4
        isplitr; · ipureintro; exact fun _ _ h => by cases h
        iexact H4
      iexact Hf
    iexact HO
  unfold after xAt wAt
  iintro ⟨⟨⟨H0, H1⟩, Hsc, Hout, Hland, Hz, HB⟩, %W', HO⟩
  unfold scales outIs
  icases Hsc with ⟨H2, H3⟩
  icases Hout with ⟨%g, %hg, H4⟩
  ihave Hscr := (scratch_close m c) $$ [Hland Hgap]
  · isplitl [Hland] <;> iassumption
  have e4 := out_whole m c g hg
  unfold bodyPost Φ₁ Dat.owesAt Pipeline.owesWithin
  isplitl [Hscr Hz HB]
  · isplitl [Hscr]; · iexact Hscr
    isplitl [Hz]; · iapply (Entails.of_eq (shut_all (F := F) c)); iexact Hz
    iexact HB
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists g; isplitr; · (ipureintro; exact e4)
  iexact H4

set_option maxRecDepth 8000 in
/-- The pipeline's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  have hb : defs₀ (F := F) Proc.tc 0 (t0_0, cfg0.slots t0_0) = body (F := F) := (show _ = bodyAt0 (F := F) t0_0 from rfl).trans (body_eq t0_0)
  have h0 : (dats m ρ 0 c).after 0 t0_0 = xIn m c := rfl
  have h1 : (dats m ρ 0 c).after 1 t0_0 = wIn m c := rfl
  have h2 : (dats m ρ 0 c).after 2 t0_0 = sxIn m c := rfl
  have h3 : (dats m ρ 0 c).after 3 t0_0 = swIn m c := rfl
  have h4 : (dats m ρ 0 c).after 4 t0_0 = outAt m c := rfl
  have hΦ : (dats m ρ 0 c).Φ t0_0.succ = Φ₁ (F := F) c := rfl
  rw [hb, h0, h1, h2, h3, h4, hΦ]
  have h := sound_body m ρ c
  unfold bodyPost at h
  refine (show _ ⊢ bodyPre m ρ c from Entails.of_eq rfl).trans ?_
  refine BIBase.Entails.trans h (Entails.of_eq ?_)
  congr 1

end Cert.KernelIdeal.RingGemm

end
-- ==== Proof.Launch.lean ====
module

public import proofs.«01_k».proof.Proof.Body
public import Idealize.ShloMosaic.Lib.Pipeline.CollectiveSegs

/-! # The launch

The semaphores' records made and shared out over the ring, the credit of what is owed at launch,
and the run of the whole program. -/

@[expose] public section

noncomputable section

namespace Cert.KernelIdeal.RingGemm

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Dat BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Facts of the launch -/

omit [FloatOps F] in
/-- Over all semaphores of the protocol: the barrier's and the transfers'. -/
theorem over_cells (Φ : Option (Bool × T) → sProp 𝕄) : bigSep Finset.univ Φ = iprop(Φ none ∗ bigSep Finset.univ fun p : Bool × T => Φ (some p)) := by
  have h := bigSep_univ_at Φ none
  rw [h]
  have he : (Finset.univ.erase none : Finset (Option (Bool × T))) = Finset.univ.map Function.Embedding.some := by
    ext k; cases k <;> simp
  rw [he, bigSep_map]
  rfl

/-- The semaphores the kernel names itself are its own, apart from those of the pipeline. -/
theorem ownSemFacts : Pipeline.OwnSemFacts cfg0.spec osem where
  isScoped := by
    intro p
    obtain ⟨q, hq, -⟩ := osem_code p
    have h : ∀ q : DmaSem sig, (SemLoc.dma q : SemLoc sig).isScoped .tc = true := by decide
    rw [hq]; exact h q
  inj := osem_inj
  disj := by
    intro p w s h
    obtain ⟨q, hq, hv⟩ := osem_code p
    rw [hq] at h
    injection h with h
    have h5 : 5 ≤ code p := by
      rcases p with ⟨_ | _, _ | _ | _ | _⟩ <;> simp only [code] <;> omega
    have : ∀ (w : Fin cfg0.W) (s), ((cfg0.spec w).sem s).val < 5 := by decide
    have := this w s
    rw [← h, hv] at this
    omega

/-- Every window is held whole. -/
theorem share_eq (c : Dev nD) (w : Fin cfg0.W) : (dats m ρ 0 c).share w = fullShare := by unfold Dat.share; split <;> rfl

/-- Different cells of the protocol are different semaphores. -/
theorem kcell_inj : Function.Injective (kcell : Dev nD × Option (Bool × T) → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- All the cells, -/
def ringCells : Finset (GSem nD τ sig) := Finset.univ.map ⟨kcell, kcell_inj⟩
/-- a device's duties: two units of its barrier and one payment of each of its counts, -/
abbrev tokOf (x : Dev nD × (Bool ⊕ Bool × T)) : GSem nD τ sig × ℕ × Bool := match x.2 with
  | .inl d => (barC x.1, 0, d)
  | .inr p => (kcell (x.1, some p), 0, false)
/-- Different tokens stand for different duties. -/
theorem tokOf_inj : Function.Injective (tokOf : Dev nD × (Bool ⊕ Bool × T) → GSem nD τ sig × ℕ × Bool) := by
  rintro ⟨c, k⟩ ⟨c', k'⟩ h
  match k, k', h with
  | .inl d, .inl d', h =>
    have h1 := kcell_inj (a₁ := (c, none)) (a₂ := (c', none)) (congrArg Prod.fst h)
    have h2 : d = d' := congrArg (fun x : GSem nD τ sig × ℕ × Bool => x.2.2) h
    have h3 : c = c' := congrArg Prod.fst h1
    rw [h3, h2]
  | .inl d, .inr p, h => exact absurd (congrArg Prod.snd (kcell_inj (a₁ := (c, none)) (a₂ := (c', some p)) (congrArg Prod.fst h))) nofun
  | .inr p, .inl d, h => exact absurd (congrArg Prod.snd (kcell_inj (a₁ := (c, some p)) (a₂ := (c', none)) (congrArg Prod.fst h))) nofun
  | .inr p, .inr p', h =>
    have h1 := kcell_inj (a₁ := (c, some p)) (a₂ := (c', some p')) (congrArg Prod.fst h)
    have h3 : c = c' := congrArg Prod.fst h1
    have h4 : p = p' := Option.some.inj (congrArg Prod.snd h1)
    rw [h3, h4]
/-- and all of them. -/
def ringToks : Finset (GSem nD τ sig × ℕ × Bool) := Finset.univ.map ⟨tokOf, tokOf_inj⟩

def u₀ : UU := (initOf (Pipeline.cells cfgs cellOf_inj) (Pipeline.launchToks cfgs cellOf_inj), initOf ringCells ringToks)

/-! ## The ghost state, minted and shared out -/

/-- The duties of device `c`'s own counts. -/
def toks (c : Dev nD) : sProp 𝕄 :=
  iprop((dutyTok ER (barC c) 0 false ∗ dutyTok ER (barC c) 0 true) ∗ bigSep Finset.univ fun p : Bool × T => dutyTok ER (kcell (c, some p)) 0 false)

def G (c : Dev nD) : sProp 𝕄 :=
  iprop((bigSep Finset.univ fun k => roundState ER (Rd m) (kcell (c, k)) 0)
    ∗ (bigSep Finset.univ fun k => iprop(atPos ER (kcell (c, k)) 0 ∅ 0 ∗ reached ER (kcell (c, k)) 0)) ∗ toks (F := F) c)
def G' (c : Dev nD) : sProp 𝕄 := iprop(∃ K, ghost m K c)

omit [FloatOps F] in
/-- The starting protocol state is one part for each device. -/
theorem fund_ring : BI.own (ER (initOf ringCells ringToks)) ⊢ (|==> bigSep Finset.univ (G (F := F) m) : sProp 𝕄) := by
  have hX (Φ : GSem nD τ sig → sProp 𝕄) : bigSep ringCells Φ = bigSep Finset.univ fun c : Dev nD => bigSep Finset.univ fun k => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks
    rw [bigSep_map, bigSep_univ_prod]
    exact bigSep_congr fun c _ => by unfold toks; rw [bigSep_univ_sum, bigSep_two]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier's semaphore is the one that outlives the kernel. -/
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
/-- One device's invariants, from its semaphores at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) := by
  have hv : iprop(unscopedSems0 c ∗ Pipeline.ownSems0 (Ix := Unit) (Name := ℕ) (U := UU) (Lvl := ℕ) (Val := Elt F) (τ := τ) osem c)
      = (bigSep Finset.univ fun k => semVal (kcell (c, k)) 0 : sProp 𝕄) := by
    rw [over_cells, unscopedSems0_eq]; rfl
  have hi : iprop((bigSep Finset.univ fun k => semVal (kcell (c, k)) 0) ∗ bigSep Finset.univ fun k => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Hos, Hus, Hst, Hat, Htok⟩
  ihave Hv := (Entails.of_eq hv) $$ [Hos Hus]
  · isplitl [Hus] <;> iassumption
  imod hi $$ [Hv Hst] with Hinv
  · isplitl [Hv] <;> iassumption
  imodintro
  isplitl [Hinv]; · iexact Hinv
  isplitl [Hat]; · iexact Hat
  iexact Htok

/-- The duties device `c` pays. -/
def payToks (c : Dev nD) : sProp 𝕄 :=
  iprop(dutyTok ER (barC (lf c)) 0 true ∗ dutyTok ER (barC (rt c)) 0 false ∗ bigSep Finset.univ fun t => sendTok (F := F) c t)

omit [FloatOps F] in
/-- Summed over the ring, a neighbour's and one's own are the same. -/
theorem around (t : T) (Φ : Dev nD → sProp 𝕄) : bigSep Finset.univ Φ = bigSep Finset.univ fun c => Φ (peer c t) := by
  match t with
  | .cx _ _ => exact bigSep_univ_equiv ring Φ
  | .cw _ => exact bigSep_univ_equiv ring Φ
  | .kx _ _ => exact bigSep_univ_equiv ring.symm Φ
  | .kw _ => exact bigSep_univ_equiv ring.symm Φ

omit [FloatOps F] in
/-- Over devices and transfers, in either order. -/
theorem swapped (Φ : Dev nD → T → sProp 𝕄) : (bigSep Finset.univ fun c => bigSep Finset.univ fun t => Φ c t) = bigSep Finset.univ fun t => bigSep Finset.univ fun c => Φ c t := by
  rw [← bigSep_univ_prod (fun p : Dev nD × T => Φ p.1 p.2), ← bigSep_univ_prod (fun p : T × Dev nD => Φ p.2 p.1)]
  exact bigSep_univ_equiv (Equiv.prodComm T (Dev nD)) fun p : Dev nD × T => Φ p.1 p.2

omit [FloatOps F] in
/-- Each token goes to the device that will pay with it. -/
theorem toks_around : (bigSep Finset.univ fun c : Dev nD => toks (F := F) c) ⊢ bigSep Finset.univ fun c : Dev nD => payToks (F := F) c := by
  have hs (c : Dev nD) : (bigSep Finset.univ fun p : Bool × T => (dutyTok ER (kcell (c, some p)) 0 false : sProp 𝕄))
      = iprop((bigSep Finset.univ fun t => dutyTok ER (sendC c t) 0 false) ∗ bigSep Finset.univ fun t => dutyTok ER (recvC c t) 0 false) := by
    rw [bigSep_univ_prod, bigSep_two]; rfl
  have hr : (bigSep Finset.univ fun c : Dev nD => bigSep Finset.univ fun t => (dutyTok ER (recvC c t) 0 false : sProp 𝕄))
      = bigSep Finset.univ fun c : Dev nD => bigSep Finset.univ fun t => dutyTok ER (recvC (peer c t) t) 0 false := by
    rw [swapped, swapped (fun (c : Dev nD) t => (dutyTok ER (recvC (peer c t) t) 0 false : sProp 𝕄))]
    exact bigSep_congr fun t _ => around t fun c => dutyTok ER (recvC c t) 0 false
  unfold toks payToks sendTok
  simp only [hs, bigSep_sep', hr]
  rw [bigSep_univ_equiv ring (fun c : Dev nD => (dutyTok ER (barC c) 0 false : sProp 𝕄)),
    bigSep_univ_equiv ring.symm (fun c : Dev nD => (dutyTok ER (barC c) 0 true : sProp 𝕄))]
  iintro ⟨⟨H1, H2⟩, H3, H4⟩
  isplitl [H2]; · iexact H2
  isplitl [H1]; · iexact H1
  isplitl [H3]; · iexact H3
  iexact H4

omit [FloatOps F] in
/-- What is persistent may be used at every index. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- The records gathered and the duties shared out. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' (F := F) m) := by
  have hg (K : Dev nD × Option (Bool × T) → ℕ) (c : Dev nD) :
      iprop(records m K ∗ (bigSep Finset.univ fun k => (atPos ER (kcell (c, k)) 0 ∅ 0 : sProp 𝕄)) ∗ payToks (F := F) c) ⊢ G' (F := F) m c := by
    rw [over_cells]
    unfold G' ghost payToks
    iintro ⟨HR, Ha, Ht⟩
    iexists K
    isplitl [HR]; · iexact HR
    isplitl [Ha]; · iexact Ha
    iexact Ht
  rw [bigSep_sep', bigSep_sep', ← bigSep_univ_prod (fun ck : Dev nD × Option (Bool × T) => iprop(∃ κ : ℕ, cellInv ER (Rd m) κ (kcell ck))),
    bigSep_congr (s := Finset.univ) (fun (c : Dev nD) _ => bigSep_sep' Finset.univ (fun k : Option (Bool × T) => (atPos ER (kcell (c, k)) 0 ∅ 0 : sProp 𝕄)) (fun k => reached ER (kcell (c, k)) 0)),
    bigSep_sep', ← bigSep_univ_prod (fun ck : Dev nD × Option (Bool × T) => (reached ER (kcell ck) 0 : sProp 𝕄))]
  iintro ⟨HI, ⟨Hat, #HR⟩, Htok⟩
  ihave HK := (BI.bigSep_exists_pi Finset.univ (fun (ck : Dev nD × Option (Bool × T)) (κ : ℕ) => (cellInv ER (Rd m) κ (kcell ck) : sProp 𝕄))) $$ HI
  icases HK with ⟨%K, #HI⟩
  ihave Htk := (toks_around (F := F)) $$ Htok
  iapply (each_with (R := records m K) fun c _ => hg K c)
  isplitr
  · unfold records; isplitl; · iexact HI
    iexact HR
  · rw [bigSep_sep']
    isplitl [Hat]; · iexact Hat
    iexact Htk

omit [FloatOps F] in
/-- The launch's global step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' (F := F) m) :=
  ((bigSep_mono fun c _ => core_alloc m c).trans (bigSep_fupd _ _)).trans (BI.fupd_mono (regroup m))

/-! ## The credit of what is owed at launch -/

/-- What the transfers owe the count of transfer `t`'s arrival at `c`: its bytes, by the device it comes from. -/
theorem owedL_recv (d c : Dev nD) (t : T) (ts : List T) (hn : ts.Nodup) : owedL d ts (recvC c t) () = if t ∈ ts ∧ peer d t = c then amt t else 0 := by
  induction ts with
  | nil => exact (if_neg fun h => by cases h.1).symm
  | cons u ts ih =>
    have hu := List.nodup_cons.mp hn
    show (owedL d ts + tallyAt (recvC (peer d u) u) () (amt u) : CellTallies nD τ sig Unit) (recvC c t) () = _
    rw [Pi.add_apply, Finsupp.add_apply, ih hu.2, tallyAt_apply]
    have hcell : (recvC c t = recvC (peer d u) u ∧ () = ()) ↔ (t = u ∧ peer d t = c) := by
      constructor
      · intro h
        have h1 := kcell_inj (a₁ := (c, some (true, t))) (a₂ := (peer d u, some (true, u))) h.1
        have h2 : t = u := congrArg Prod.snd (Option.some.inj (congrArg Prod.snd h1))
        exact ⟨h2, by rw [h2]; exact (congrArg Prod.fst h1).symm⟩
      · rintro ⟨rfl, rfl⟩; exact ⟨rfl, rfl⟩
    by_cases htu : t = u
    · subst htu
      rw [if_neg fun h => hu.1 h.1, Nat.zero_add]
      exact if_congr (hcell.trans ⟨fun h => ⟨List.mem_cons_self, h.2⟩, fun h => ⟨rfl, h.2⟩⟩) rfl rfl
    · rw [if_neg (fun h => htu (hcell.mp h).1), Nat.add_zero]
      exact if_congr ⟨fun h => ⟨List.mem_cons_of_mem _ h.1, h.2⟩, fun h => ⟨(List.mem_cons.mp h.1).resolve_left htu, h.2⟩⟩ rfl rfl

/-- The semaphore of a receipt is never the barrier. -/
theorem recv_ne_bar (c d : Dev nD) (t : T) : recvC c t ≠ barC d := fun h => osem_ne_bar (true, t) (congrArg Prod.snd h)

/-- The transfers owe a barrier nothing. -/
theorem owedL_bar (d c : Dev nD) (ts : List T) : owedL d ts (barC c) () = 0 := by
  by_contra h
  obtain ⟨t, -, ht⟩ := owedL_pos (Nat.pos_of_ne_zero h)
  exact recv_ne_bar _ _ t ht.symm

/-- Barriers are the same exactly when their devices are. -/
theorem bar_eq_iff {a b : Dev nD} : barC a = barC b ↔ a = b :=
  ⟨fun h => congrArg (fun g : GSem nD τ sig => g.1.1) h, fun h => h ▸ rfl⟩

/-- What a device owes the barrier of another: one signal if it is the left neighbour there, one if the right. -/
theorem owed_bar (d c : Dev nD) : O₀ d (barC c) () = (if d = lf c then 1 else 0) + (if d = rt c then 1 else 0) := by
  unfold O₀ O₁
  rw [Pi.add_apply, Finsupp.add_apply, Pi.add_apply, Finsupp.add_apply, owedL_bar, tallyAt_apply, tallyAt_apply, Nat.zero_add]
  have e1 : (barC c = barC (rt d) ∧ () = ()) ↔ d = lf c := ⟨fun h => by rw [bar_eq_iff.mp h.1, lf_rt], fun h => ⟨by rw [h, rt_lf], rfl⟩⟩
  have e2 : (barC c = barC (lf d) ∧ () = ()) ↔ d = rt c := ⟨fun h => by rw [bar_eq_iff.mp h.1, rt_lf], fun h => ⟨by rw [h, lf_rt], rfl⟩⟩
  rw [if_congr e1 rfl rfl, if_congr e2 rfl rfl]

/-- What a device owes a receipt: the amount of the copy, if that copy goes there. -/
theorem owed_recv (d c : Dev nD) (t : T) : O₀ d (recvC c t) () = if peer d t = c then amt t else 0 := by
  unfold O₀ O₁
  rw [Pi.add_apply, Finsupp.add_apply, Pi.add_apply, Finsupp.add_apply, owedL_recv d c t _ later_nodup, tallyAt_apply, tallyAt_apply,
    if_neg (fun h : recvC c t = barC (rt d) ∧ () = () => recv_ne_bar _ _ _ h.1), if_neg (fun h : recvC c t = barC (lf d) ∧ () = () => recv_ne_bar _ _ _ h.1), Nat.add_zero]
  exact if_congr ⟨fun h => h.2, fun h => ⟨List.mem_toFinset.mp (later_univ ▸ Finset.mem_univ t), h⟩⟩ rfl rfl

/-- What all devices owe one barrier: two signals. -/
theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lf c) fun _ => 1, Finset.sum_ite_eq' Finset.univ (rt c) fun _ => 1, if_pos (Finset.mem_univ _), if_pos (Finset.mem_univ _)]

/-- One device's transfer `t` ends at `c`. -/
theorem peer_iff (t : T) : ∃ f : Dev nD → Dev nD, ∀ d c, peer d t = c ↔ d = f c := by
  cases hg : goesR t
  · exact ⟨rt, fun d c => by rw [peer_L hg]; exact ⟨fun h => by rw [← h, rt_lf], fun h => by rw [h, lf_rt]⟩⟩
  · exact ⟨lf, fun d c => by rw [peer_R hg]; exact ⟨fun h => by rw [← h, lf_rt], fun h => by rw [h, rt_lf]⟩⟩

/-- What all devices owe one receipt: the amount of one copy. -/
theorem launch_recv (c : Dev nD) (t : T) :
    tallyOn (recvC c t) (launchCredit (Pipeline.owing O₀) 0 (recvC c t)) = (tallyAt (recvC c t) () (amt t) : CellTallies nD τ sig Unit) := by
  obtain ⟨f, hf⟩ := peer_iff t
  unfold tallyAt; refine congrArg _ (Finsupp.ext fun u => ?_); cases u
  rw [Pipeline.launchCredit_owing, Finsupp.single_eq_same, Finset.sum_congr rfl fun d _ => (owed_recv d c t).trans (if_congr (hf d c) rfl rfl),
    Finset.sum_ite_eq' Finset.univ (f c) fun _ => amt t, if_pos (Finset.mem_univ _)]

/-- The semaphores that count arrivals. -/
def arrivals : Finset (SemLoc sig) := Finset.univ.map ⟨fun t : T => osem (true, t), fun _ _ h => congrArg Prod.snd (osem_inj h)⟩

omit [FloatOps F] in
/-- The credits a device starts with. -/
theorem creds (c : Dev nD) :
    (Pipeline.launchCred O₀ c : sProp 𝕄) ⊢ iprop(cred (tallyAt (barC c) () 2) ∗ bigSep Finset.univ fun t => cred (tallyAt (recvC c t) () (amt t))) := by
  unfold Pipeline.launchCred
  rw [bigSep_univ_at _ (SemLoc.reg barS), launch_bar]
  refine sep_mono_right ?_
  have hsub : arrivals ⊆ Finset.univ.erase (SemLoc.reg barS) := by
    intro s hs
    obtain ⟨t, -, rfl⟩ := Finset.mem_map.mp hs
    exact Finset.mem_erase.mpr ⟨osem_ne_bar (true, t), Finset.mem_univ _⟩
  refine (bigSep_subset hsub).trans ?_
  unfold arrivals
  rw [bigSep_map]
  exact Entails.of_eq (bigSep_congr fun t _ => congrArg cred (launch_recv c t))

/-! ## The launch's conditions -/

omit [FloatOps F] in
/-- What a device is given at the start gives what its body asks. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(startsWith (F := F) m c ∗ emp) := by
  iintro ⟨-, Hlev, Hcr, -, HG⟩
  ihave Hc := (creds (F := F) c) $$ Hcr
  icases Hc with ⟨H1, HN⟩
  imodintro
  unfold startsWith G'
  isplitl
  · isplitl [HG]; · iexact HG
    isplitl [H1]; · iexact H1
    isplitl [HN]; · iexact HN
    iexact Hlev
  · iempintro

/-- What a device holds before its only step. -/
theorem phi0_intro (c : Dev nD) :
    iprop(startsWith m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch some'
  iintro ⟨Hs, -, Hr⟩
  isplitl [Hs]; · iexact Hs
  iexact Hr

/-- What a device holds after its only step is what it hands back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scratch some' Pipeline.ownSems0
  iintro ⟨Hr, Hz, HB⟩
  isplitl [HB]; · iexact HB
  isplitl [Hz]; · iexact Hz
  iexact Hr

/-- The waits of the pipeline are allowed at their levels. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What each array holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 32000 in
/-- From any memory with all semaphores at zero every fair execution on the sixteen devices ends, with each
    device's arrays at the computed contents and all semaphores at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := startsWith m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The four operands' arrays hold what they held. -/
theorem finalA_in (c : Dev nD) (w : Fin 4) : finalA m ρ c (Fin.castSucc w) = (s₀ m ρ).mem ((cfg0.win (Fin.castSucc w : Fin 5)).arr.view.loc (c : Thread nD τ)) := by
  fin_cases w <;> exact (dats (F := F) m ρ 0 c).arrAt_in _ rfl _

end Cert.KernelIdeal.RingGemm

end
-- ==== Proof.RefValue.lean ====
module

public import proofs.«01_k».proof.Proof.Gen.ReferenceIdeal.Value

/-! # The reference's result

The reference is one launch over whole arrays. Its result array is the payload of its one
store, taken at the four argument arrays. -/

@[expose] public section

noncomputable section

namespace Cert.ReferenceIdeal.Whole

open Cert.ReferenceIdeal Cert.ReferenceIdeal.Gen Cert.ReferenceIdeal.Value
open Idealize.ShloMosaic Idealize.ShloMosaic.TcCoe Idealize.SL.Sem

variable {F : FTy → Type} [FloatOps F]

/-- The one place of a scale's array. -/
def only : S1.Idx := fun _ => ⟨0, by decide +revert⟩

/-- The reference's result as a function of its arguments. -/
def refOut (x : Vec F S4096x4096 .fp8e5m2) (w : Vec F S4096x2048 .fp8e5m2) (sx sw : Vec F S1 .f32) : Vec F S4096x2048 .f32 :=
  k0_pay1 x w (sx only) (sw only)

/-- The origin of a plane, written as a function. -/
theorem origin : (![0, 0] : Fin 2 → Nat) = fun _ => 0 := by
  funext a; fin_cases a <;> rfl

/-- An array of one element has one value. -/
theorem at_only (v : Vec F S1 .f32) (i : S1.Idx) : v i = v only := by
  congr 1
  funext a
  have h : ∀ b : Fin S1.rank, S1.size b = 1 := by decide
  have hi : (i a).val < 1 := lt_of_lt_of_eq (i a).isLt (h a)
  exact Fin.ext (show (i a).val = 0 by omega)

/-- The body leaves `refOut` of the staged blocks in the result's staging buffer. -/
theorem left_eq (c : Dev nD) (a0 : Memref sig .tc .vmem S4096x4096 .fp8e5m2) (h0 : a0.IsWhole)
    (a1 : Memref sig .tc .vmem S4096x2048 .fp8e5m2) (h1 : a1.IsWhole) (a2 : Memref sig .tc .smem S1 .f32) (h2 : a2.IsWhole)
    (a3 : Memref sig .tc .smem S1 .f32) (h3 : a3.IsWhole) (a4 : Memref sig .tc .vmem S4096x2048 .f32) (h4 : a4.IsWhole)
    (x : Vec F S4096x4096 .fp8e5m2) (w : Vec F S4096x2048 .fp8e5m2) (sx sw : Vec F S1 .f32) :
    out0_A_4 c a0 h0 a1 h1 a2 h2 a3 h3 a4 h4 x w sx sw = refOut x w sx sw := by
  unfold out0_A_4
  rw [View.read_writes_junk_eq_canon]
  show View.canon ([⟨Rect.unit ![0, 0] S4096x2048.size inb_S4096x2048_S4096x2048_0_0,
      k0_pay1
        (View.readAt (Elt F) a0.view (Rect.unit ![0, 0] S4096x4096.size inb_S4096x4096_S4096x4096_0_0).toLoadRect (h0.unread x))
        (View.readAt (Elt F) a1.view (Rect.unit ![0, 0] S4096x2048.size inb_S4096x2048_S4096x2048_0_0).toLoadRect (h1.unread w))
        (View.readAt (Elt F) a2.view (Rect.unit (s := S1) ![0] S1.size inb_S1_S1_0).toLoadRect (h2.unread sx) _)
        (View.readAt (Elt F) a3.view (Rect.unit (s := S1) ![0] S1.size inb_S1_S1_0).toLoadRect (h3.unread sw) _)⟩] :
      List (View.Piece (Elt F) S4096x2048 .f32)) = _
  rw [View.canon_unit_zero origin]
  repeat rw [View.readAt_eq_ld]
  rw [h0.read_unread, h1.read_unread, h2.read_unread, h3.read_unread, View.ld_unit_zero origin, View.ld_unit_zero origin]
  exact congrArg₂ (k0_pay1 x w) (at_only sx _) (at_only sw _)

variable (m : (ℓ : Loc nD τ sig) → Buf (Elt F) ℓ) (ρ : Dev nD → PrngReg)

/-- An array read where each index is itself. -/
theorem read_self {s : Shape} {α : Type} (v : s.Idx → α) (e : s.Idx → s.Idx)
    (h : ∀ j a, (e j a).val = 0 * s.size a + 1 * (j a).val) : (fun j => v (e j)) = v := by
  funext j
  congr 1
  funext a
  exact Fin.ext ((h j a).trans (by omega))

/-- The one block of each input window is its argument. -/
theorem in0 (c : Dev nD) (t : Fin cfg0.N) : iblk m c 0 t = V m c main_arg0 :=
  read_self (s := S4096x4096) (V m c main_arg0) ((cfg0.win 0).blk t).view.emb fun _ _ => rfl
/-- The w window holds the w argument whole. -/
theorem in1 (c : Dev nD) (t : Fin cfg0.N) : iblk m c 1 t = V m c main_arg1 :=
  read_self (s := S4096x2048) (V m c main_arg1) ((cfg0.win 1).blk t).view.emb fun _ _ => rfl
/-- The window of the scale of x holds that argument whole. -/
theorem in2 (c : Dev nD) (t : Fin cfg0.N) : iblk m c 2 t = V m c main_arg2 :=
  read_self (s := S1) (V m c main_arg2) ((cfg0.win 2).blk t).view.emb fun _ _ => rfl
/-- The window of the scale of w holds that argument whole. -/
theorem in3 (c : Dev nD) (t : Fin cfg0.N) : iblk m c 3 t = V m c main_arg3 :=
  read_self (s := S1) (V m c main_arg3) ((cfg0.win 3).blk t).view.emb fun _ _ => rfl

/-- The result array after the run. -/
theorem result (c : Dev nD) : (dats m 0 c).arrAt 4 cfg0.N
    = refOut (m ((c : Thread nD τ).loc main_arg0)) (m ((c : Thread nD τ).loc main_arg1))
        (m ((c : Thread nD τ).loc main_arg2)) (m ((c : Thread nD τ).loc main_arg3)) := by
  have hb := blocks4 m c t0_0 (flush0_4 _)
  rw [flushed4_A, left_eq, in0, in1, in2, in3, V_main_arg0, V_main_arg1, V_main_arg2, V_main_arg3] at hb
  have hr : ((cfg0.win 4).blk t0_0).view.read (Elt F) ((dats m 0 c).arrAt 4 cfg0.N) = (dats m 0 c).arrAt 4 cfg0.N :=
    read_self (s := S4096x2048) ((dats m 0 c).arrAt 4 cfg0.N) ((cfg0.win 4).blk t0_0).view.emb fun _ _ => rfl
  exact hr.symm.trans hb

/-- The reference's run: the result array, and the arguments unchanged. -/
theorem run : θ_run defs (onTc (τ := τ) (main (F := F))) ⟨m, fun _ => 0, ρ⟩ fun r => ∀ c : Dev nD,
      r.2.mem ((c : Thread nD τ).loc main_v0)
        = refOut (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (result m c), (h c).2⟩) (run_blocks m ρ)

end Cert.ReferenceIdeal.Whole

end
-- ==== Proof.Value.lean ====
module

public import proofs.«01_k».proof.Proof.Launch
public import proofs.«01_k».proof.Proof.RefValue
public import Idealize.ShloMosaic.Lib.MatmulPlain
public import Idealize.ShloMosaic.Lib.ValueIdx
public import Idealize.ShloMosaic.Lib.ValueLayout

/-! # What the result is, over the extended reals

Every block a device multiplies is a block of the operand arrays of some device. So each
element of the result is the activation of a sum over all sixteen devices of that device's
share of one inner product, added in the order in which the blocks come round the ring. -/

@[expose] public section

noncomputable section

namespace Cert.KernelIdeal.RingGemm

open Idealize.ShloMosaic Idealize.ShloMosaic.TcCoe Idealize.ShloMosaic.ValueIdx
open Idealize.SL.Sem
open Idealize.ShloMosaic.Pipeline (Dat)
open Cert.KernelIdeal Cert.KernelIdeal.Gen
open Cert.ReferenceIdeal.Whole (read_self)
open scoped BigOperators

/-! ## The staged arrays -/

section Arrays

variable {F : FTy → Type} [FloatOps F]
variable (m : (ℓ : Loc nD τ sig) → Buf (Elt F) ℓ) (ρ : Dev nD → PrngReg)

omit [FloatOps F] in
/-- The staged operands are the argument arrays. -/
theorem xIn_eq (c : Dev nD) : xIn m c = m ((c : Thread nD τ).loc main_arg0) :=
  read_self (s := S4096x256) (m ((c : Thread nD τ).loc main_arg0)) (win0_0.blk (0 : Fin 1)).view.emb fun _ _ => rfl
omit [FloatOps F] in
/-- The staged w is the w argument. -/
theorem wIn_eq (c : Dev nD) : wIn m c = m ((c : Thread nD τ).loc main_arg1) :=
  read_self (s := S256x2048) (m ((c : Thread nD τ).loc main_arg1)) (win0_1.blk (0 : Fin 1)).view.emb fun _ _ => rfl
omit [FloatOps F] in
/-- The staged scale of x is its argument. -/
theorem sxIn_eq (c : Dev nD) : sxIn m c = m ((c : Thread nD τ).loc main_arg2) :=
  read_self (s := S1) (m ((c : Thread nD τ).loc main_arg2)) (win0_2.blk (0 : Fin 1)).view.emb fun _ _ => rfl
omit [FloatOps F] in
/-- The staged scale of w is its argument. -/
theorem swIn_eq (c : Dev nD) : swIn m c = m ((c : Thread nD τ).loc main_arg3) :=
  read_self (s := S1) (m ((c : Thread nD τ).loc main_arg3)) (win0_3.blk (0 : Fin 1)).view.emb fun _ _ => rfl

/-- The result array in the end is the result buffer's last contents. -/
theorem finalA_out (c : Dev nD) : finalA m ρ c (4 : Fin 5) = outAt m c := by
  have hb := (dats m ρ 0 c).read_blk_arrAt_eq_flushed (4 : Fin 5)
    (fun t t' _ _ hne => absurd (Subsingleton.elim (α := Fin 1) t t') hne) cfg0.N t0_0 t0_0.isLt (flush0_4 t0_0)
  have hr : ((cfg0.win (4 : Fin 5)).blk t0_0).view.read (Elt F) ((dats m ρ 0 c).arrAt (4 : Fin 5) cfg0.N) = (dats m ρ 0 c).arrAt (4 : Fin 5) cfg0.N :=
    read_self (s := S4096x2048) ((dats m ρ 0 c).arrAt (4 : Fin 5) cfg0.N) ((cfg0.win (4 : Fin 5)).blk t0_0).view.emb fun _ _ => rfl
  exact hr.symm.trans hb

/-! ## The blocks at an index -/

/-- Row `a` of row block `r`. -/
def inBlk (r : Fin 4) (a : Fin 1024) : Fin 4096 := ⟨1024 * r.val + a.val, by omega⟩

omit [FloatOps F] in
/-- An element of a row block of the device's own x. -/
theorem xB_at (c : Dev nD) (r : Fin 4) (a : Fin 1024) (k : Fin 256) : xB m c r (ix2 a k) = xIn m c (ix2 (inBlk r a) k) := by
  show xIn m c ((xrRect r).emb (ix2 a k)) = _
  congr 1
  funext i
  refine Fin.ext ?_
  rw [Rect.emb_apply]
  match i with
  | ⟨0, _⟩ => show 1024 * r.val + 1 * a.val = 1024 * r.val + a.val; omega
  | ⟨1, _⟩ => show 0 + 1 * k.val = k.val; omega

omit [FloatOps F] in
/-- An element of the device's own w. -/
theorem wB_at (c : Dev nD) (k : Fin 256) (b : Fin 2048) : wB m c (ix2 k b) = wIn m c (ix2 k b) := by
  show wIn m c (wRect.emb (ix2 k b)) = _
  congr 1
  funext i
  refine Fin.ext ?_
  rw [Rect.emb_apply]
  match i with
  | ⟨0, _⟩ => show 0 + 1 * k.val = k.val; omega
  | ⟨1, _⟩ => show 0 + 1 * b.val = b.val; omega

/-- A row block of a slot of x, as a matrix: of a stack of any height; -/
theorem x_slot_at {n : Nat} {α : Type} (h : Fin n) (r : Fin 4) (inb) (g : (⟨3, ![n, 4096, 256]⟩ : Shape).Idx → α) (hc) (a : Fin 1024) (k : Fin 256) :
    shapeCast S1024x256 (fun j : S1x1024x256.Idx => g ((Rect.unit (s := ⟨3, ![n, 4096, 256]⟩) ![h.val, 1024 * r.val, 0] S1x1024x256.size inb).emb j)) hc (ix2 a k)
      = g (ix3 h (inBlk r a) k) := by
  refine (shapeCast_1ab_ab_apply _ hc a k).trans (congrArg g ?_)
  funext i
  refine Fin.ext ?_
  rw [Rect.emb_apply]
  match i with
  | ⟨0, _⟩ => show h.val + 1 * 0 = h.val; omega
  | ⟨1, _⟩ => show 1024 * r.val + 1 * a.val = 1024 * r.val + a.val; omega
  | ⟨2, _⟩ => show 0 + 1 * k.val = k.val; omega

/-- and a slot of w. -/
theorem w_slot_at {n : Nat} {α : Type} (h : Fin n) (inb) (g : (⟨3, ![n, 256, 2048]⟩ : Shape).Idx → α) (hc) (k : Fin 256) (b : Fin 2048) :
    shapeCast S256x2048 (fun j : S1x256x2048.Idx => g ((Rect.unit (s := ⟨3, ![n, 256, 2048]⟩) ![h.val, 0, 0] S1x256x2048.size inb).emb j)) hc (ix2 k b)
      = g (ix3 h k b) := by
  refine (shapeCast_1ab_ab_apply _ hc k b).trans (congrArg g ?_)
  funext i
  refine Fin.ext ?_
  rw [Rect.emb_apply]
  match i with
  | ⟨0, _⟩ => show h.val + 1 * 0 = h.val; omega
  | ⟨1, _⟩ => show 0 + 1 * k.val = k.val; omega
  | ⟨2, _⟩ => show 0 + 1 * b.val = b.val; omega

omit [FloatOps F] in
/-- An element of a row block of the x that came from the left. -/
theorem cxB_at (c : Dev nD) (h : Fin 9) (r : Fin 4) (hc) (a : Fin 1024) (k : Fin 256) :
    shapeCast S1024x256 (cxB m c h r) hc (ix2 a k) = xIn m (back c h.val) (ix2 (inBlk r a) k) := x_slot_at h r _ (cxAll m c) hc a k
omit [FloatOps F] in
/-- An element of a row block of the x that came from the right. -/
theorem kxB_at (c : Dev nD) (h : Fin 8) (r : Fin 4) (hc) (a : Fin 1024) (k : Fin 256) :
    shapeCast S1024x256 (kxB m c h r) hc (ix2 a k) = xIn m (fwd c h.val) (ix2 (inBlk r a) k) := x_slot_at h r _ (kxAll m c) hc a k
omit [FloatOps F] in
/-- An element of the w that came from the left. -/
theorem cwB_at (c : Dev nD) (h : Fin 9) (hc) (k : Fin 256) (b : Fin 2048) :
    shapeCast S256x2048 (cwB m c h) hc (ix2 k b) = wIn m (back c h.val) (ix2 k b) := w_slot_at h _ (cwAll m c) hc k b
omit [FloatOps F] in
/-- An element of the w that came from the right. -/
theorem kwB_at (c : Dev nD) (h : Fin 8) (hc) (k : Fin 256) (b : Fin 2048) :
    shapeCast S256x2048 (kwB m c h) hc (ix2 k b) = wIn m (fwd c h.val) (ix2 k b) := w_slot_at h _ (kwAll m c) hc k b

end Arrays

/-! ## The activation -/

/-- The activation, on one scaled element. -/
def act {F : FTy → Type} [FloatOps F] (y : F .f32) : F .f32 :=
  FloatOps.divf y (FloatOps.addf (Scalar.ofBits .f32 0x3F800000#32) (FloatOps.exp (FloatOps.subf (Scalar.ofBits .f32 0x00000000#32)
    (FloatOps.minimumf (Scalar.ofBits .f32 0x42700000#32) (FloatOps.maximumf (Scalar.ofBits .f32 0xC2700000#32) y)))))

/-! ## The products -/

/-- A matrix product at an element. -/
theorem product_at {M K N : ℕ} {φ ψ : FTy} (x : FVec Ideal ⟨2, ![M, K]⟩ φ) (w : FVec Ideal ⟨2, ![K, N]⟩ ψ) (i : Fin M) (j : Fin N) :
    FloatOps.matmul (DotDims.plain M K N) none x w (constant ⟨2, ![M, N]⟩ .f32 0x00000000#32) (ix2 i j)
      = (∑ k : Fin K, x (ix2 i k) * w (ix2 k j) : EReal) := by
  rw [Ideal.matmul_plain_apply, constant_apply, Ideal.ofBits_zero_f32]
  exact zero_add _

variable (m : (ℓ : Loc nD τ sig) → Buf (Elt Ideal) ℓ) (ρ : Dev nD → PrngReg)

/-- A device's operand blocks, as extended reals. -/
def xE (d : Dev nD) : S4096x256.Idx → EReal := xIn m d
def wE (d : Dev nD) : S256x2048.Idx → EReal := wIn m d

/-- Device `d`'s share of element `(i, j)`: its columns of x by its rows of w. -/
def share (i : Fin 4096) (j : Fin 2048) (d : Dev nD) : EReal := ∑ k : Fin 256, xE m d (ix2 i k) * wE m d (ix2 k j)

/-- A device's product of its own blocks. -/
theorem own_at (c : Dev nD) (r : Fin 4) (a : Fin 1024) (b : Fin 2048) :
    k0_pay2 (xB m c r) (wB m c) (ix2 a b) = share m (inBlk r a) b c := by
  unfold k0_pay2
  refine (product_at (M := 1024) (K := 256) (N := 2048) _ _ a b).trans (Finset.sum_congr rfl fun k _ => ?_)
  rw [shapeCast_self, shapeCast_self, xB_at, wB_at]; rfl

/-- The product of a left slot's blocks. -/
theorem left_at (c : Dev nD) (h : Fin 9) (r : Fin 4) (hx hw) (a : Fin 1024) (b : Fin 2048) :
    FloatOps.matmul dot_S1024x256_S256x2048_S1024x2048_1_0_0_1_n_n none (shapeCast S1024x256 (cxB m c h r) hx : FVec Ideal S1024x256 .fp8e5m2)
        (shapeCast S256x2048 (cwB m c h) hw : FVec Ideal S256x2048 .fp8e5m2) (constant S1024x2048 .f32 0x00000000#32) (ix2 a b)
      = share m (inBlk r a) b (back c h.val) := by
  refine (product_at (M := 1024) (K := 256) (N := 2048) _ _ a b).trans (Finset.sum_congr rfl fun k _ => ?_)
  rw [cxB_at, cwB_at]; rfl

/-- Two blocks side by side: the first 256 columns, and the others; -/
theorem side_l {α : Type} (x y : S1024x256.Idx → α) (hc) (a : Fin 1024) (k : Fin 256) :
    concatenate S1024x512 1 [⟨S1024x256, x⟩, ⟨S1024x256, y⟩] hc (ix2 a (Fin.castAdd 256 k)) = x (ix2 a k) :=
  concatenate_pair_apply_left (t := S1024x512) (s₁ := S1024x256) (s₂ := S1024x256) 1 x y hc _ rfl (ix2 a k) fun (i : Fin 2) => by
    match i with
    | ⟨0, _⟩ => rfl
    | ⟨1, _⟩ => rfl
/-- Two blocks side by side, read in the second. -/
theorem side_r {α : Type} (x y : S1024x256.Idx → α) (hc) (a : Fin 1024) (k : Fin 256) :
    concatenate S1024x512 1 [⟨S1024x256, x⟩, ⟨S1024x256, y⟩] hc (ix2 a (Fin.natAdd 256 k)) = y (ix2 a k) :=
  concatenate_pair_apply_right (t := S1024x512) (s₁ := S1024x256) (s₂ := S1024x256) 1 x y hc _ rfl rfl (ix2 a k) (fun (i : Fin 2) hi => by
    match i with
    | ⟨0, _⟩ => rfl
    | ⟨1, _⟩ => exact absurd rfl hi) (Nat.add_comm _ _)
/-- one above the other: the first 256 rows, and the others. -/
theorem above_l {α : Type} (x y : S256x2048.Idx → α) (hc) (k : Fin 256) (b : Fin 2048) :
    concatenate S512x2048 0 [⟨S256x2048, x⟩, ⟨S256x2048, y⟩] hc (ix2 (Fin.castAdd 256 k) b) = x (ix2 k b) :=
  concatenate_pair_apply_left (t := S512x2048) (s₁ := S256x2048) (s₂ := S256x2048) 0 x y hc _ rfl (ix2 k b) fun (i : Fin 2) => by
    match i with
    | ⟨0, _⟩ => rfl
    | ⟨1, _⟩ => rfl
/-- Two blocks one above the other, read in the second. -/
theorem above_r {α : Type} (x y : S256x2048.Idx → α) (hc) (k : Fin 256) (b : Fin 2048) :
    concatenate S512x2048 0 [⟨S256x2048, x⟩, ⟨S256x2048, y⟩] hc (ix2 (Fin.natAdd 256 k) b) = y (ix2 k b) :=
  concatenate_pair_apply_right (t := S512x2048) (s₁ := S256x2048) (s₂ := S256x2048) 0 x y hc _ rfl rfl (ix2 k b) (fun (i : Fin 2) hi => by
    match i with
    | ⟨0, _⟩ => exact absurd rfl hi
    | ⟨1, _⟩ => rfl) (Nat.add_comm _ _)

/-- One hop's update adds the shares of the two devices whose blocks came. -/
theorem hop_at (c : Dev nD) (h : Fin 8) (r : Fin 4) (o : Vec Ideal S1024x2048 .f32) (a : Fin 1024) (b : Fin 2048) :
    k0_pay7 (cwB m c h.castSucc) (kwB m c h) (cxB m c h.castSucc r) (kxB m c h r) o (ix2 a b)
      = (o (ix2 a b) + (share m (inBlk r a) b (back c h.val) + share m (inBlk r a) b (fwd c h.val)) : EReal) := by
  unfold k0_pay7 k0_pay6
  rw [addf_apply, shapeCast_self]
  refine congrArg (fun z : EReal => (o (ix2 a b) + z : EReal)) ?_
  refine (product_at (M := 1024) (K := 256 + 256) (N := 2048) _ _ a b).trans ((Fin.sum_univ_add _).trans ?_)
  refine congrArg₂ (fun y z : EReal => y + z) (Finset.sum_congr rfl fun k _ => ?_) (Finset.sum_congr rfl fun k _ => ?_)
  · rw [side_l, above_l, cxB_at, cwB_at]; rfl
  · rw [side_r, above_r, kxB_at, kwB_at]; rfl

/-- The sum a row block has reached after hop `k`. -/
def upTo (f : Dev nD → EReal) (c : Dev nD) : Nat → EReal
  | 0 => f c
  | k + 1 => upTo f c k + (f (back c (k + 1)) + f (fwd c (k + 1)))

/-- A row block of the result after a hop, element by element: the sum of the shares that have come. -/
theorem acc_at (c : Dev nD) (r : Fin 4) (a : Fin 1024) (b : Fin 2048) :
    ∀ k : Nat, k < 8 → acc m c k r (ix2 a b) = upTo (share m (inBlk r a) b) c k
  | 0, _ => own_at m c r a b
  | k + 1, hk => by
    rw [acc_mid m c ⟨k + 1, hk⟩ k rfl, hop_at, acc_at c r a b k (by omega)]
    rfl

/-- To the left is also to the right, the other way round. -/
theorem back_eq_fwd (c : Dev nD) (k : Nat) (h0 : 0 < k) (hk : k < 16) : back c k = fwd c (16 - k) := by
  apply Fin.ext
  show (c.val + 16 - k) % 16 = (c.val + (16 - k)) % 16
  omega

/-- Hops one to seven bring two devices' shares each and hop eight the last one: all sixteen. -/
theorem upTo_all (f : Dev nD → EReal) (c : Dev nD) : upTo f c 7 + f (back c 8) = ∑ d : Dev nD, f d := by
  have hb : ∀ c : Dev nD, Function.Bijective fun j : Fin 16 => fwd c j.val := by decide
  rw [← (hb c).sum_comp f, ← Finset.sum_range fun j => f (fwd c j)]
  simp only [upTo, Finset.sum_range_succ, Finset.sum_range_zero, Nat.reduceAdd, fwd_zero, zero_add,
    back_eq_fwd c 1 (by decide) (by decide), back_eq_fwd c 2 (by decide) (by decide), back_eq_fwd c 3 (by decide) (by decide),
    back_eq_fwd c 4 (by decide) (by decide), back_eq_fwd c 5 (by decide) (by decide), back_eq_fwd c 6 (by decide) (by decide),
    back_eq_fwd c 7 (by decide) (by decide), back_eq_fwd c 8 (by decide) (by decide), Nat.reduceSub]
  abel

/-- The result at an element, before the activation: the scaled sum of the shares. -/
theorem last_at (c : Dev nD) (r : Fin 4) (a : Fin 1024) (b : Fin 2048) :
    acc m c 8 r (ix2 a b) = act (FloatOps.mulf (F := Ideal) (φ := .f32) (∑ d : Dev nD, share m (inBlk r a) b d : EReal) (scl m c)) := by
  rw [acc_last, ← upTo_all _ c, ← acc_at m c r a b 7 (by decide)]
  unfold k0_pay50
  rw [shapeCast_self]
  refine (show _ = act (FloatOps.mulf (FloatOps.addf (acc m c 7 r (ix2 a b)) (FloatOps.matmul dot_S1024x256_S256x2048_S1024x2048_1_0_0_1_n_n none
    (shapeCast S1024x256 (cxB m c 8 r) _ : FVec Ideal S1024x256 .fp8e5m2)
        (shapeCast S256x2048 (cwB m c 8) _ : FVec Ideal S256x2048 .fp8e5m2) (constant S1024x2048 .f32 0x00000000#32) (ix2 a b))) (scl m c)) from rfl).trans ?_
  rw [left_at]
  rfl

end Cert.KernelIdeal.RingGemm

end
-- ==== Proof.Agree.lean ====
module

public import proofs.«01_k».proof.Proof.Value
public import proofs.«01_k».proof.Proof.RefValue
public import Idealize.ShloMosaic.Lib.Layout

/-! # The two results agree

The sixteen shares of an element are the sixteen runs of 256 terms of the whole inner product. -/

@[expose] public section

noncomputable section

namespace Cert.KernelIdeal.RingGemm

open Idealize.ShloMosaic Idealize.ShloMosaic.TcCoe Idealize.ShloMosaic.ValueIdx
open Idealize.SL.Sem
open Cert.KernelIdeal Cert.KernelIdeal.Gen
open Cert.ReferenceIdeal (S4096x4096)
open Cert.ReferenceIdeal.Whole (refOut only at_only)
open scoped BigOperators

/-- Column `k` of device `d`'s columns, as a column of the whole. -/
def colOf (d : Dev nD) (k : Fin 256) : Fin 4096 := ⟨d.val * 256 + k.val, by have h : d.val < 16 := d.isLt; omega⟩

/-- A sum over all columns, device by device. -/
theorem sum_by_device (f : Fin 4096 → EReal) : ∑ k : Fin 4096, f k = ∑ d : Dev nD, ∑ k : Fin 256, f (colOf d k) := by
  have h := (finProdFinEquiv (m := 16) (n := 256)).sum_comp f
  rw [← h, Fintype.sum_prod_type]
  refine Finset.sum_congr rfl fun d _ => Finset.sum_congr rfl fun k _ => congrArg f (Fin.ext ?_)
  show k.val + 256 * d.val = d.val * 256 + k.val
  omega

/-- The reference's result at an element. -/
theorem refOut_at (x : Vec Ideal S4096x4096 .fp8e5m2) (w : Vec Ideal S4096x2048 .fp8e5m2) (sx sw : Vec Ideal S1 .f32) (i : Fin 4096) (j : Fin 2048) :
    refOut x w sx sw (ix2 i j)
      = act (FloatOps.mulf (F := Ideal) (φ := .f32) (∑ k : Fin 4096, (show S4096x4096.Idx → EReal from x) (ix2 i k) * (show S4096x2048.Idx → EReal from w) (ix2 k j) : EReal)
          (FloatOps.mulf (sx only) (sw only))) :=
  congrArg (fun y : EReal => act (FloatOps.mulf (F := Ideal) (φ := .f32) y (FloatOps.mulf (sx only) (sw only))))
    (product_at (M := 4096) (K := 4096) (N := 2048) x w i j)

variable (m : (ℓ : Loc nD τ sig) → Buf (Elt Ideal) ℓ)

/-- A row of the result is found again from the row block it lies in and its place there. -/
theorem row_back (a : Fin 4096) : inBlk (rowBlk a) (rowIn a) = a := by
  apply Fin.ext
  show 1024 * (a.val / 1024) + a.val % 1024 = a.val
  omega

/-- Where the devices' operands are the blocks of whole arrays and the scales are the reference's,
    every device's result is the reference's. -/
theorem outAt_eq (x : Vec Ideal S4096x4096 .fp8e5m2) (w : Vec Ideal S4096x2048 .fp8e5m2) (sx sw : Vec Ideal S1 .f32)
    (hx : ∀ d : Dev nD, m ((d : Thread nD τ).loc main_arg0) = Layout.block ⟨2, ![4096, 256]⟩ ⟨2, ![4096, 4096]⟩ 1 16 d x)
    (hw : ∀ d : Dev nD, m ((d : Thread nD τ).loc main_arg1) = Layout.block ⟨2, ![256, 2048]⟩ ⟨2, ![4096, 2048]⟩ 0 16 d w)
    (c : Dev nD) (hsx : m ((c : Thread nD τ).loc main_arg2) = sx) (hsw : m ((c : Thread nD τ).loc main_arg3) = sw) :
    outAt m c = refOut x w sx sw := by
  have ex : ∀ (d : Dev nD) (i : Fin 4096) (k : Fin 256), xE m d (ix2 i k) = x (ix2 i (colOf d k)) := fun d i k => by
    unfold xE
    rw [xIn_eq, hx d]
    refine congrArg x (funext fun (b : Fin 2) => ?_)
    match b with
    | ⟨0, _⟩ => rfl
    | ⟨1, _⟩ => rfl
  have ew : ∀ (d : Dev nD) (k : Fin 256) (j : Fin 2048), wE m d (ix2 k j) = w (ix2 (colOf d k) j) := fun d k j => by
    unfold wE
    rw [wIn_eq, hw d]
    refine congrArg w (funext fun (b : Fin 2) => ?_)
    match b with
    | ⟨0, _⟩ => rfl
    | ⟨1, _⟩ => rfl
  have es : scl m c = FloatOps.mulf (sx only) (sw only) := by
    have h1 := (sxIn_eq m c).trans hsx
    have h2 := (swIn_eq m c).trans hsw
    unfold scl
    rw [h1, h2]
    exact congrArg₂ (FloatOps.mulf (F := Ideal) (φ := .f32)) (at_only sx _) (at_only sw _)
  have key : ∀ (i : Fin 4096) (j : Fin 2048), acc m c 8 (rowBlk i) (ix2 (rowIn i) j) = refOut x w sx sw (ix2 i j) := fun i j => by
    rw [last_at, refOut_at, es, row_back, sum_by_device]
    refine congrArg (fun y : EReal => act (FloatOps.mulf (F := Ideal) (φ := .f32) y (FloatOps.mulf (sx only) (sw only)))) ?_
    refine Finset.sum_congr rfl fun d _ => Finset.sum_congr rfl fun k _ => ?_
    rw [ex, ew]
  funext (i : S4096x2048.Idx)
  exact (key (i 0) (i 1)).trans (congrArg (refOut x w sx sw) (eq_ix2 (n0 := 4096) (n1 := 2048) i).symm)

end Cert.KernelIdeal.RingGemm

end
-- ==== Proof.lean ====
/- The five claims. The kernel's run (Proof/Launch.lean) gives both frames of the kernel, at the bit patterns and
over the extended reals; with what it leaves in the result (Proof/Value.lean), what the reference computes
(Proof/RefValue.lean) and their equality (Proof/Agree.lean) it gives the value claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem
open Cert.KernelIdeal.RingGemm (run_main finalA finalA_in finalA_out outAt outAt_eq QC)

section

open Cert.KernelIdeal

variable {F : FTy → Type} [FloatOps F]
variable (m : (ℓ : Loc nD τ sig) → Buf (Elt F) ℓ) (ρ : Dev nD → PrngReg)

/-- In the end each device's arguments hold what they held. -/
theorem kept (r : PUnit × MemSt nD τ sig (Elt F)) (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c (0 : Fin 5)).trans (finalA_in m ρ c 0), (h c (1 : Fin 5)).trans (finalA_in m ρ c 1),
    (h c (2 : Fin 5)).trans (finalA_in m ρ c 2), (h c (3 : Fin 5)).trans (finalA_in m ρ c 3)⟩

/-- The result buffer holds the computed result. -/
theorem got (r : PUnit × MemSt nD τ sig (Elt F)) (h : QC m ρ r) (c : Dev nD) :
    r.2.mem ((c.tc : Thread nD τ).loc main_v1) = outAt m c := (h c (4 : Fin 5)).trans (finalA_out m ρ c)

end

/-- Over the extended reals the kernel runs to an end and leaves its arguments as they were. -/
theorem frame_ideal : Cert.quiescent_KernelIdeal (hKernelIdeal := Cert.KernelIdeal.Gen.facts) := fun m ρ _ =>
  (θ_run Cert.KernelIdeal.defs _ _).mono (fun r h => ⟨fun c => kept m ρ r h.1 c, h.2⟩) (run_main (F := Ideal) m ρ)

/-- The kernel as printed and its reading over the extended reals have the same text. -/
theorem same_run (m : (ℓ : Loc Cert.Kernel.nD Cert.Kernel.τ Cert.Kernel.sig) → Buf (Elt Bits) ℓ) (ρ : Dev Cert.Kernel.nD → PrngReg)
    (Q : PUnit × MemSt Cert.Kernel.nD Cert.Kernel.τ Cert.Kernel.sig (Elt Bits) → Prop) :
    θ_run (Cert.Kernel.defs (F := Bits)) (onTc (τ := Cert.Kernel.τ) (Cert.Kernel.main (F := Bits))) ⟨m, fun _ => 0, ρ⟩ Q
      = θ_run (Cert.KernelIdeal.defs (F := Bits)) (onTc (τ := Cert.KernelIdeal.τ) (Cert.KernelIdeal.main (F := Bits))) ⟨m, fun _ => 0, ρ⟩ Q := by
  sl_kernel_rfl

/-- The run is proved at any floats, so also at the bit patterns of the printed kernel. -/
theorem frame_printed : Cert.quiescent_Kernel (hKernel := Cert.Kernel.Gen.facts) := fun m ρ _ =>
  (same_run m ρ _).mpr ((θ_run Cert.KernelIdeal.defs _ _).mono (fun r h => ⟨fun c => kept m ρ r h.1 c, h.2⟩) (run_main (F := Bits) m ρ))

/-- The reference runs to an end and leaves its arguments as they were. -/
theorem frame_reference : Cert.quiescent_ReferenceIdeal (hReferenceIdeal := Cert.ReferenceIdeal.Gen.facts) := fun m ρ _ =>
  Cert.ReferenceIdeal.Gen.frame m ρ

/-- On blocks of the reference's arrays the sixteen devices each compute the reference's result. -/
theorem value : Cert.algebraic_KernelIdeal_ReferenceIdeal (hKernelIdeal := Cert.KernelIdeal.Gen.facts)
    (hReferenceIdeal := Cert.ReferenceIdeal.Gen.facts) := fun m ρ m' ρ' _ H =>
  ⟨_, (θ_run Cert.KernelIdeal.defs _ _).mono
      (fun r h c => ⟨(got m ρ r h.1 c).trans
        (outAt_eq m _ _ _ _ (fun d => (H d).1) (fun d => (H d).2.1) c (H c).2.2.1 (H c).2.2.2), kept m ρ r h.1 c⟩)
      (run_main (F := Ideal) m ρ),
    (θ_run Cert.ReferenceIdeal.defs _ _).mono (fun _ h => h 0) (Cert.ReferenceIdeal.Whole.run m' ρ')⟩

/-- The five claims together. -/
theorem claim : Cert.Claim := ⟨Cert.Kernel.Gen.facts, Cert.KernelIdeal.Gen.facts, Cert.ReferenceIdeal.Gen.facts,
  frame_printed, frame_ideal, frame_reference, trivial, value⟩

end Cert.Proof

end
